-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_medians_fit [hPre_medians_fit : Cert.Pre_medians_fit.Facts] (m : (ℓ : Loc Cert.KernelIdeal.nD Cert.KernelIdeal.τ Cert.KernelIdeal.sig) → Buf (Elt Ideal) ℓ) : Prop :=
  ∀ c : Dev Cert.KernelIdeal.nD,
    (Cert.Pre_medians_fit.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_medians_fit [hPre_medians_fit : Cert.Pre_medians_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_medians_fit.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_medians_fit [hKernelIdeal : Cert.KernelIdeal.Facts] [hPre_medians_fit : Cert.Pre_medians_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_medians_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_medians_fit [hReferenceIdeal : Cert.ReferenceIdeal.Facts] [hPre_medians_fit : Cert.Pre_medians_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_medians_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_medians_fit [hKernelIdeal : Cert.KernelIdeal.Facts] [hReferenceIdeal : Cert.ReferenceIdeal.Facts] [hPre_medians_fit : Cert.Pre_medians_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_medians_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_medians_fit : Cert.Pre_medians_fit.Facts),
    quiescent_Kernel (hKernel := hKernel)
    ∧ quiescent_KernelIdeal (hKernelIdeal := hKernelIdeal)
    ∧ quiescent_KernelIdeal_pre_medians_fit (hKernelIdeal := hKernelIdeal) (hPre_medians_fit := hPre_medians_fit)
    ∧ quiescent_ReferenceIdeal (hReferenceIdeal := hReferenceIdeal)
    ∧ quiescent_ReferenceIdeal_pre_medians_fit (hReferenceIdeal := hReferenceIdeal) (hPre_medians_fit := hPre_medians_fit)
    ∧ preserves_Kernel_KernelIdeal
    ∧ algebraic_KernelIdeal_ReferenceIdeal_pre_medians_fit (hKernelIdeal := hKernelIdeal) (hReferenceIdeal := hReferenceIdeal) (hPre_medians_fit := hPre_medians_fit)
-- ==== Pre_medians_fit.lean ====
abbrev S2x2x1025x1024 : Shape := ⟨4, ![2, 2, 1025, 1024]⟩
abbrev S_ : Shape := ⟨0, ![]⟩
abbrev S2x2x1025x1054 : Shape := ⟨4, ![2, 2, 1025, 1054]⟩
abbrev S2x2x1025x1054x1 : Shape := ⟨5, ![2, 2, 1025, 1054, 1]⟩
abbrev S2x2x1025x1024x1 : Shape := ⟨5, ![2, 2, 1025, 1024, 1]⟩
abbrev S2x2x1025x1024x16 : Shape := ⟨5, ![2, 2, 1025, 1024, 16]⟩
abbrev S2x2x1025x1024x15 : Shape := ⟨5, ![2, 2, 1025, 1024, 15]⟩
abbrev S2x2x1025x1024x31 : Shape := ⟨5, ![2, 2, 1025, 1024, 31]⟩
abbrev S1 : Shape := ⟨1, ![1]⟩
abbrev S2x2x1055x1024 : Shape := ⟨4, ![2, 2, 1055, 1024]⟩
abbrev S2x2x1055x1024x1 : Shape := ⟨5, ![2, 2, 1055, 1024, 1]⟩

class Facts : Prop where
  pads_S2x2x1025x1024_S2x2x1025x1054_000_000_000_15150 : S2x2x1025x1024.Pads (![0, 0, 0, 15] : Fin 4 → Nat) ![0, 0, 0, 15] ![0, 0, 0, 0] S2x2x1025x1054
  h_S_ : 0 < S_.numel
  bcast_S2x2x1025x1054_S2x2x1025x1054x1_0_1_2_3 : S2x2x1025x1054.BroadcastsInDim S2x2x1025x1054x1 (![0, 1, 2, 3] : Fin 4 → Fin S2x2x1025x1054x1.rank)
  slices_S2x2x1025x1054x1_S2x2x1025x1024x1_0_0_0_0_0 : S2x2x1025x1054x1.Slices ![0, 0, 0, 0, 0] S2x2x1025x1024x1
  slices_S2x2x1025x1054x1_S2x2x1025x1024x1_0_0_0_1_0 : S2x2x1025x1054x1.Slices ![0, 0, 0, 1, 0] S2x2x1025x1024x1
  slices_S2x2x1025x1054x1_S2x2x1025x1024x1_0_0_0_2_0 : S2x2x1025x1054x1.Slices ![0, 0, 0, 2, 0] S2x2x1025x1024x1
  slices_S2x2x1025x1054x1_S2x2x1025x1024x1_0_0_0_3_0 : S2x2x1025x1054x1.Slices ![0, 0, 0, 3, 0] S2x2x1025x1024x1
  slices_S2x2x1025x1054x1_S2x2x1025x1024x1_0_0_0_4_0 : S2x2x1025x1054x1.Slices ![0, 0, 0, 4, 0] S2x2x1025x1024x1
  slices_S2x2x1025x1054x1_S2x2x1025x1024x1_0_0_0_5_0 : S2x2x1025x1054x1.Slices ![0, 0, 0, 5, 0] S2x2x1025x1024x1
  slices_S2x2x1025x1054x1_S2x2x1025x1024x1_0_0_0_6_0 : S2x2x1025x1054x1.Slices ![0, 0, 0, 6, 0] S2x2x1025x1024x1
  slices_S2x2x1025x1054x1_S2x2x1025x1024x1_0_0_0_7_0 : S2x2x1025x1054x1.Slices ![0, 0, 0, 7, 0] S2x2x1025x1024x1
  slices_S2x2x1025x1054x1_S2x2x1025x1024x1_0_0_0_8_0 : S2x2x1025x1054x1.Slices ![0, 0, 0, 8, 0] S2x2x1025x1024x1
  slices_S2x2x1025x1054x1_S2x2x1025x1024x1_0_0_0_9_0 : S2x2x1025x1054x1.Slices ![0, 0, 0, 9, 0] S2x2x1025x1024x1
  slices_S2x2x1025x1054x1_S2x2x1025x1024x1_0_0_0_10_0 : S2x2x1025x1054x1.Slices ![0, 0, 0, 10, 0] S2x2x1025x1024x1
  slices_S2x2x1025x1054x1_S2x2x1025x1024x1_0_0_0_11_0 : S2x2x1025x1054x1.Slices ![0, 0, 0, 11, 0] S2x2x1025x1024x1
  slices_S2x2x1025x1054x1_S2x2x1025x1024x1_0_0_0_12_0 : S2x2x1025x1054x1.Slices ![0, 0, 0, 12, 0] S2x2x1025x1024x1
  slices_S2x2x1025x1054x1_S2x2x1025x1024x1_0_0_0_13_0 : S2x2x1025x1054x1.Slices ![0, 0, 0, 13, 0] S2x2x1025x1024x1
  slices_S2x2x1025x1054x1_S2x2x1025x1024x1_0_0_0_14_0 : S2x2x1025x1054x1.Slices ![0, 0, 0, 14, 0] S2x2x1025x1024x1
  slices_S2x2x1025x1054x1_S2x2x1025x1024x1_0_0_0_15_0 : S2x2x1025x1054x1.Slices ![0, 0, 0, 15, 0] S2x2x1025x1024x1
  slices_S2x2x1025x1054x1_S2x2x1025x1024x1_0_0_0_16_0 : S2x2x1025x1054x1.Slices ![0, 0, 0, 16, 0] S2x2x1025x1024x1
  slices_S2x2x1025x1054x1_S2x2x1025x1024x1_0_0_0_17_0 : S2x2x1025x1054x1.Slices ![0, 0, 0, 17, 0] S2x2x1025x1024x1
  slices_S2x2x1025x1054x1_S2x2x1025x1024x1_0_0_0_18_0 : S2x2x1025x1054x1.Slices ![0, 0, 0, 18, 0] S2x2x1025x1024x1
  slices_S2x2x1025x1054x1_S2x2x1025x1024x1_0_0_0_19_0 : S2x2x1025x1054x1.Slices ![0, 0, 0, 19, 0] S2x2x1025x1024x1
  slices_S2x2x1025x1054x1_S2x2x1025x1024x1_0_0_0_20_0 : S2x2x1025x1054x1.Slices ![0, 0, 0, 20, 0] S2x2x1025x1024x1
  slices_S2x2x1025x1054x1_S2x2x1025x1024x1_0_0_0_21_0 : S2x2x1025x1054x1.Slices ![0, 0, 0, 21, 0] S2x2x1025x1024x1
  slices_S2x2x1025x1054x1_S2x2x1025x1024x1_0_0_0_22_0 : S2x2x1025x1054x1.Slices ![0, 0, 0, 22, 0] S2x2x1025x1024x1
  slices_S2x2x1025x1054x1_S2x2x1025x1024x1_0_0_0_23_0 : S2x2x1025x1054x1.Slices ![0, 0, 0, 23, 0] S2x2x1025x1024x1
  slices_S2x2x1025x1054x1_S2x2x1025x1024x1_0_0_0_24_0 : S2x2x1025x1054x1.Slices ![0, 0, 0, 24, 0] S2x2x1025x1024x1
  slices_S2x2x1025x1054x1_S2x2x1025x1024x1_0_0_0_25_0 : S2x2x1025x1054x1.Slices ![0, 0, 0, 25, 0] S2x2x1025x1024x1
  slices_S2x2x1025x1054x1_S2x2x1025x1024x1_0_0_0_26_0 : S2x2x1025x1054x1.Slices ![0, 0, 0, 26, 0] S2x2x1025x1024x1
  slices_S2x2x1025x1054x1_S2x2x1025x1024x1_0_0_0_27_0 : S2x2x1025x1054x1.Slices ![0, 0, 0, 27, 0] S2x2x1025x1024x1
  slices_S2x2x1025x1054x1_S2x2x1025x1024x1_0_0_0_28_0 : S2x2x1025x1054x1.Slices ![0, 0, 0, 28, 0] S2x2x1025x1024x1
  slices_S2x2x1025x1054x1_S2x2x1025x1024x1_0_0_0_29_0 : S2x2x1025x1054x1.Slices ![0, 0, 0, 29, 0] S2x2x1025x1024x1
  slices_S2x2x1025x1054x1_S2x2x1025x1024x1_0_0_0_30_0 : S2x2x1025x1054x1.Slices ![0, 0, 0, 30, 0] S2x2x1025x1024x1
  concatenates_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x16_d4 : Shape.Concatenates [S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1] S2x2x1025x1024x16 4
  concatenates_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x15_d4 : Shape.Concatenates [S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1, S2x2x1025x1024x1] S2x2x1025x1024x15 4
  concatenates_S2x2x1025x1024x16_S2x2x1025x1024x15_S2x2x1025x1024x31_d4 : Shape.Concatenates [S2x2x1025x1024x16, S2x2x1025x1024x15] S2x2x1025x1024x31 4
  reducesTo_S2x2x1025x1024x31_S2x2x1025x1024_d4 : S2x2x1025x1024x31.ReducesTo [4] S2x2x1025x1024
  bcast_S2x2x1025x1024_S2x2x1025x1024x1_0_1_2_3 : S2x2x1025x1024.BroadcastsInDim S2x2x1025x1024x1 (![0, 1, 2, 3] : Fin 4 → Fin S2x2x1025x1024x1.rank)
  bcast_S2x2x1025x1024x1_S2x2x1025x1024x31_0_1_2_3_4 : S2x2x1025x1024x1.BroadcastsInDim S2x2x1025x1024x31 (![0, 1, 2, 3, 4] : Fin 5 → Fin S2x2x1025x1024x31.rank)
  bcast_S_S2x2x1025x1024x31 : S_.BroadcastsInDim S2x2x1025x1024x31 (![] : Fin 0 → Fin S2x2x1025x1024x31.rank)
  bcast_S_S1 : S_.BroadcastsInDim S1 (![] : Fin 0 → Fin S1.rank)
  bcast_S_S2x2x1025x1024 : S_.BroadcastsInDim S2x2x1025x1024 (![] : Fin 0 → Fin S2x2x1025x1024.rank)
  pads_S2x2x1025x1024_S2x2x1055x1024_000_000_15150_000 : S2x2x1025x1024.Pads (![0, 0, 15, 0] : Fin 4 → Nat) ![0, 0, 15, 0] ![0, 0, 0, 0] S2x2x1055x1024
  bcast_S2x2x1055x1024_S2x2x1055x1024x1_0_1_2_3 : S2x2x1055x1024.BroadcastsInDim S2x2x1055x1024x1 (![0, 1, 2, 3] : Fin 4 → Fin S2x2x1055x1024x1.rank)
  slices_S2x2x1055x1024x1_S2x2x1025x1024x1_0_0_0_0_0 : S2x2x1055x1024x1.Slices ![0, 0, 0, 0, 0] S2x2x1025x1024x1
  slices_S2x2x1055x1024x1_S2x2x1025x1024x1_0_0_1_0_0 : S2x2x1055x1024x1.Slices ![0, 0, 1, 0, 0] S2x2x1025x1024x1
  slices_S2x2x1055x1024x1_S2x2x1025x1024x1_0_0_2_0_0 : S2x2x1055x1024x1.Slices ![0, 0, 2, 0, 0] S2x2x1025x1024x1
  slices_S2x2x1055x1024x1_S2x2x1025x1024x1_0_0_3_0_0 : S2x2x1055x1024x1.Slices ![0, 0, 3, 0, 0] S2x2x1025x1024x1
  slices_S2x2x1055x1024x1_S2x2x1025x1024x1_0_0_4_0_0 : S2x2x1055x1024x1.Slices ![0, 0, 4, 0, 0] S2x2x1025x1024x1
  slices_S2x2x1055x1024x1_S2x2x1025x1024x1_0_0_5_0_0 : S2x2x1055x1024x1.Slices ![0, 0, 5, 0, 0] S2x2x1025x1024x1
  slices_S2x2x1055x1024x1_S2x2x1025x1024x1_0_0_6_0_0 : S2x2x1055x1024x1.Slices ![0, 0, 6, 0, 0] S2x2x1025x1024x1
  slices_S2x2x1055x1024x1_S2x2x1025x1024x1_0_0_7_0_0 : S2x2x1055x1024x1.Slices ![0, 0, 7, 0, 0] S2x2x1025x1024x1
  slices_S2x2x1055x1024x1_S2x2x1025x1024x1_0_0_8_0_0 : S2x2x1055x1024x1.Slices ![0, 0, 8, 0, 0] S2x2x1025x1024x1
  slices_S2x2x1055x1024x1_S2x2x1025x1024x1_0_0_9_0_0 : S2x2x1055x1024x1.Slices ![0, 0, 9, 0, 0] S2x2x1025x1024x1
  slices_S2x2x1055x1024x1_S2x2x1025x1024x1_0_0_10_0_0 : S2x2x1055x1024x1.Slices ![0, 0, 10, 0, 0] S2x2x1025x1024x1
  slices_S2x2x1055x1024x1_S2x2x1025x1024x1_0_0_11_0_0 : S2x2x1055x1024x1.Slices ![0, 0, 11, 0, 0] S2x2x1025x1024x1
  slices_S2x2x1055x1024x1_S2x2x1025x1024x1_0_0_12_0_0 : S2x2x1055x1024x1.Slices ![0, 0, 12, 0, 0] S2x2x1025x1024x1
  slices_S2x2x1055x1024x1_S2x2x1025x1024x1_0_0_13_0_0 : S2x2x1055x1024x1.Slices ![0, 0, 13, 0, 0] S2x2x1025x1024x1
  slices_S2x2x1055x1024x1_S2x2x1025x1024x1_0_0_14_0_0 : S2x2x1055x1024x1.Slices ![0, 0, 14, 0, 0] S2x2x1025x1024x1
  slices_S2x2x1055x1024x1_S2x2x1025x1024x1_0_0_15_0_0 : S2x2x1055x1024x1.Slices ![0, 0, 15, 0, 0] S2x2x1025x1024x1
  slices_S2x2x1055x1024x1_S2x2x1025x1024x1_0_0_16_0_0 : S2x2x1055x1024x1.Slices ![0, 0, 16, 0, 0] S2x2x1025x1024x1
  slices_S2x2x1055x1024x1_S2x2x1025x1024x1_0_0_17_0_0 : S2x2x1055x1024x1.Slices ![0, 0, 17, 0, 0] S2x2x1025x1024x1
  slices_S2x2x1055x1024x1_S2x2x1025x1024x1_0_0_18_0_0 : S2x2x1055x1024x1.Slices ![0, 0, 18, 0, 0] S2x2x1025x1024x1
  slices_S2x2x1055x1024x1_S2x2x1025x1024x1_0_0_19_0_0 : S2x2x1055x1024x1.Slices ![0, 0, 19, 0, 0] S2x2x1025x1024x1
  slices_S2x2x1055x1024x1_S2x2x1025x1024x1_0_0_20_0_0 : S2x2x1055x1024x1.Slices ![0, 0, 20, 0, 0] S2x2x1025x1024x1
  slices_S2x2x1055x1024x1_S2x2x1025x1024x1_0_0_21_0_0 : S2x2x1055x1024x1.Slices ![0, 0, 21, 0, 0] S2x2x1025x1024x1
  slices_S2x2x1055x1024x1_S2x2x1025x1024x1_0_0_22_0_0 : S2x2x1055x1024x1.Slices ![0, 0, 22, 0, 0] S2x2x1025x1024x1
  slices_S2x2x1055x1024x1_S2x2x1025x1024x1_0_0_23_0_0 : S2x2x1055x1024x1.Slices ![0, 0, 23, 0, 0] S2x2x1025x1024x1
  slices_S2x2x1055x1024x1_S2x2x1025x1024x1_0_0_24_0_0 : S2x2x1055x1024x1.Slices ![0, 0, 24, 0, 0] S2x2x1025x1024x1
  slices_S2x2x1055x1024x1_S2x2x1025x1024x1_0_0_25_0_0 : S2x2x1055x1024x1.Slices ![0, 0, 25, 0, 0] S2x2x1025x1024x1
  slices_S2x2x1055x1024x1_S2x2x1025x1024x1_0_0_26_0_0 : S2x2x1055x1024x1.Slices ![0, 0, 26, 0, 0] S2x2x1025x1024x1
  slices_S2x2x1055x1024x1_S2x2x1025x1024x1_0_0_27_0_0 : S2x2x1055x1024x1.Slices ![0, 0, 27, 0, 0] S2x2x1025x1024x1
  slices_S2x2x1055x1024x1_S2x2x1025x1024x1_0_0_28_0_0 : S2x2x1055x1024x1.Slices ![0, 0, 28, 0, 0] S2x2x1025x1024x1
  slices_S2x2x1055x1024x1_S2x2x1025x1024x1_0_0_29_0_0 : S2x2x1055x1024x1.Slices ![0, 0, 29, 0, 0] S2x2x1025x1024x1
  slices_S2x2x1055x1024x1_S2x2x1025x1024x1_0_0_30_0_0 : S2x2x1055x1024x1.Slices ![0, 0, 30, 0, 0] S2x2x1025x1024x1
  gather_S2x2x1025x1024x31_S1_S2x2x1025x1024_0123_4_n_n_4_0_22102510241_wf : GatherDims.WF S2x2x1025x1024x31 S1 S2x2x1025x1024 [0, 1, 2, 3] [4] [] [4] [] 0 ![2, 2, 1025, 1024, 1]

variable [Facts]

variable {F : FTy → Type} [FloatOps F]
def comparator_f32_d4 : F .f32 → F .f32 → BitVec 1 :=
  fun l r =>
    let cst_10 := FloatOps.ofBits .f32 0x00000000#32
    let v24 := FloatOps.cmpf .oeq l cst_10
    let cst_11 := FloatOps.ofBits .f32 0x00000000#32
    let v25 := Scalar.select v24 cst_11 l
    let v26 := FloatOps.cmpf .une l l
    let cst_12 := FloatOps.ofBits .f32 0x7FC00000#32
    let v27 := Scalar.select v26 cst_12 v25
    let cst_13 := FloatOps.ofBits .f32 0x00000000#32
    let v28 := FloatOps.cmpf .oeq r cst_13
    let cst_14 := FloatOps.ofBits .f32 0x00000000#32
    let v29 := Scalar.select v28 cst_14 r
    let v30 := FloatOps.cmpf .une r r
    let cst_15 := FloatOps.ofBits .f32 0x7FC00000#32
    let v31 := Scalar.select v30 cst_15 v29
    let v32 := FloatOps.cmpfTotal .lt v27 v31
    v32
def gather_S2x2x1025x1024x31_S1_S2x2x1025x1024_0123_4_n_n_4_0_22102510241 : GatherDims S2x2x1025x1024x31 S1 S2x2x1025x1024 where
  offsetDims := [0, 1, 2, 3]
  collapsedSliceDims := [4]
  operandBatchingDims := []
  startIndicesBatchingDims := []
  startIndexMap := [4]
  indexVectorDim := 0
  sliceSizes := ![2, 2, 1025, 1024, 1]
  wf := gather_S2x2x1025x1024x31_S1_S2x2x1025x1024_0123_4_n_n_4_0_22102510241_wf

def fn_pad {F : FTy → Type} [FloatOps F] (arg0 : FVec F S2x2x1025x1024 .f32) (arg1 : IVec S_ 32) : FVec F S2x2x1025x1054 .f32 :=
  let v0 : FVec F S_ .f32 := sitofp .f32 arg1
  let v1 : FVec F S2x2x1025x1054 .f32 := (fun x v => pad S2x2x1025x1054 ![0, 0, 0, 15] ![0, 0, 0, 15] ![0, 0, 0, 0] x v pads_S2x2x1025x1024_S2x2x1025x1054_000_000_000_15150 h_S_) arg0 v0
  v1

def fn_shifts {F : FTy → Type} [FloatOps F] (arg0 : FVec F S2x2x1025x1054x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 0, 0, 0] · slices_S2x2x1025x1054x1_S2x2x1025x1024x1_0_0_0_0_0) arg0
  let v1 : FVec F S2x2x1025x1024x1 .f32 := (extractStridedSlice S2x2x1025x1024x1 ![0, 0, 0, 1, 0] · slices_S2x2x1025x1054x1_S2x2x1025x1024x1_0_0_0_1_0) arg0
  let v2 : FVec F S2x2x1025x1024x1 .f32 := (extractStridedSlice S2x2x1025x1024x1 ![0, 0, 0, 2, 0] · slices_S2x2x1025x1054x1_S2x2x1025x1024x1_0_0_0_2_0) arg0
  let v3 : FVec F S2x2x1025x1024x1 .f32 := (extractStridedSlice S2x2x1025x1024x1 ![0, 0, 0, 3, 0] · slices_S2x2x1025x1054x1_S2x2x1025x1024x1_0_0_0_3_0) arg0
  let v4 : FVec F S2x2x1025x1024x1 .f32 := (extractStridedSlice S2x2x1025x1024x1 ![0, 0, 0, 4, 0] · slices_S2x2x1025x1054x1_S2x2x1025x1024x1_0_0_0_4_0) arg0
  let v5 : FVec F S2x2x1025x1024x1 .f32 := (extractStridedSlice S2x2x1025x1024x1 ![0, 0, 0, 5, 0] · slices_S2x2x1025x1054x1_S2x2x1025x1024x1_0_0_0_5_0) arg0
  let v6 : FVec F S2x2x1025x1024x1 .f32 := (extractStridedSlice S2x2x1025x1024x1 ![0, 0, 0, 6, 0] · slices_S2x2x1025x1054x1_S2x2x1025x1024x1_0_0_0_6_0) arg0
  let v7 : FVec F S2x2x1025x1024x1 .f32 := (extractStridedSlice S2x2x1025x1024x1 ![0, 0, 0, 7, 0] · slices_S2x2x1025x1054x1_S2x2x1025x1024x1_0_0_0_7_0) arg0
  (v0, v1, v2, v3, v4, v5, v6, v7)

def fn_shifts_0 {F : FTy → Type} [FloatOps F] (arg0 : FVec F S2x2x1025x1054x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 0, 8, 0] · slices_S2x2x1025x1054x1_S2x2x1025x1024x1_0_0_0_8_0) arg0
  let v1 : FVec F S2x2x1025x1024x1 .f32 := (extractStridedSlice S2x2x1025x1024x1 ![0, 0, 0, 9, 0] · slices_S2x2x1025x1054x1_S2x2x1025x1024x1_0_0_0_9_0) arg0
  let v2 : FVec F S2x2x1025x1024x1 .f32 := (extractStridedSlice S2x2x1025x1024x1 ![0, 0, 0, 10, 0] · slices_S2x2x1025x1054x1_S2x2x1025x1024x1_0_0_0_10_0) arg0
  let v3 : FVec F S2x2x1025x1024x1 .f32 := (extractStridedSlice S2x2x1025x1024x1 ![0, 0, 0, 11, 0] · slices_S2x2x1025x1054x1_S2x2x1025x1024x1_0_0_0_11_0) arg0
  let v4 : FVec F S2x2x1025x1024x1 .f32 := (extractStridedSlice S2x2x1025x1024x1 ![0, 0, 0, 12, 0] · slices_S2x2x1025x1054x1_S2x2x1025x1024x1_0_0_0_12_0) arg0
  let v5 : FVec F S2x2x1025x1024x1 .f32 := (extractStridedSlice S2x2x1025x1024x1 ![0, 0, 0, 13, 0] · slices_S2x2x1025x1054x1_S2x2x1025x1024x1_0_0_0_13_0) arg0
  let v6 : FVec F S2x2x1025x1024x1 .f32 := (extractStridedSlice S2x2x1025x1024x1 ![0, 0, 0, 14, 0] · slices_S2x2x1025x1054x1_S2x2x1025x1024x1_0_0_0_14_0) arg0
  let v7 : FVec F S2x2x1025x1024x1 .f32 := (extractStridedSlice S2x2x1025x1024x1 ![0, 0, 0, 15, 0] · slices_S2x2x1025x1054x1_S2x2x1025x1024x1_0_0_0_15_0) arg0
  (v0, v1, v2, v3, v4, v5, v6, v7)

def fn_shifts_1 {F : FTy → Type} [FloatOps F] (arg0 : FVec F S2x2x1025x1054x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 0, 16, 0] · slices_S2x2x1025x1054x1_S2x2x1025x1024x1_0_0_0_16_0) arg0
  let v1 : FVec F S2x2x1025x1024x1 .f32 := (extractStridedSlice S2x2x1025x1024x1 ![0, 0, 0, 17, 0] · slices_S2x2x1025x1054x1_S2x2x1025x1024x1_0_0_0_17_0) arg0
  let v2 : FVec F S2x2x1025x1024x1 .f32 := (extractStridedSlice S2x2x1025x1024x1 ![0, 0, 0, 18, 0] · slices_S2x2x1025x1054x1_S2x2x1025x1024x1_0_0_0_18_0) arg0
  let v3 : FVec F S2x2x1025x1024x1 .f32 := (extractStridedSlice S2x2x1025x1024x1 ![0, 0, 0, 19, 0] · slices_S2x2x1025x1054x1_S2x2x1025x1024x1_0_0_0_19_0) arg0
  let v4 : FVec F S2x2x1025x1024x1 .f32 := (extractStridedSlice S2x2x1025x1024x1 ![0, 0, 0, 20, 0] · slices_S2x2x1025x1054x1_S2x2x1025x1024x1_0_0_0_20_0) arg0
  let v5 : FVec F S2x2x1025x1024x1 .f32 := (extractStridedSlice S2x2x1025x1024x1 ![0, 0, 0, 21, 0] · slices_S2x2x1025x1054x1_S2x2x1025x1024x1_0_0_0_21_0) arg0
  let v6 : FVec F S2x2x1025x1024x1 .f32 := (extractStridedSlice S2x2x1025x1024x1 ![0, 0, 0, 22, 0] · slices_S2x2x1025x1054x1_S2x2x1025x1024x1_0_0_0_22_0) arg0
  let v7 : FVec F S2x2x1025x1024x1 .f32 := (extractStridedSlice S2x2x1025x1024x1 ![0, 0, 0, 23, 0] · slices_S2x2x1025x1054x1_S2x2x1025x1024x1_0_0_0_23_0) arg0
  (v0, v1, v2, v3, v4, v5, v6, v7)

def fn_shifts_2 {F : FTy → Type} [FloatOps F] (arg0 : FVec F S2x2x1025x1054x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 0, 24, 0] · slices_S2x2x1025x1054x1_S2x2x1025x1024x1_0_0_0_24_0) arg0
  let v1 : FVec F S2x2x1025x1024x1 .f32 := (extractStridedSlice S2x2x1025x1024x1 ![0, 0, 0, 25, 0] · slices_S2x2x1025x1054x1_S2x2x1025x1024x1_0_0_0_25_0) arg0
  let v2 : FVec F S2x2x1025x1024x1 .f32 := (extractStridedSlice S2x2x1025x1024x1 ![0, 0, 0, 26, 0] · slices_S2x2x1025x1054x1_S2x2x1025x1024x1_0_0_0_26_0) arg0
  let v3 : FVec F S2x2x1025x1024x1 .f32 := (extractStridedSlice S2x2x1025x1024x1 ![0, 0, 0, 27, 0] · slices_S2x2x1025x1054x1_S2x2x1025x1024x1_0_0_0_27_0) arg0
  let v4 : FVec F S2x2x1025x1024x1 .f32 := (extractStridedSlice S2x2x1025x1024x1 ![0, 0, 0, 28, 0] · slices_S2x2x1025x1054x1_S2x2x1025x1024x1_0_0_0_28_0) arg0
  let v5 : FVec F S2x2x1025x1024x1 .f32 := (extractStridedSlice S2x2x1025x1024x1 ![0, 0, 0, 29, 0] · slices_S2x2x1025x1054x1_S2x2x1025x1024x1_0_0_0_29_0) arg0
  let v6 : FVec F S2x2x1025x1024x1 .f32 := (extractStridedSlice S2x2x1025x1024x1 ![0, 0, 0, 30, 0] · slices_S2x2x1025x1054x1_S2x2x1025x1024x1_0_0_0_30_0) arg0
  (v0, v1, v2, v3, v4, v5, v6)

def fn_where {F : FTy → Type} [FloatOps F] (arg0 : IVec S2x2x1025x1024x1 1) (arg1 : FVec F S_ .f32) (arg2 : FVec F S2x2x1025x1024x31 .f32) : FVec F S2x2x1025x1024x31 .f32 :=
  let v0 : FVec F S_ .f32 := id arg1
  let v1 : IVec S2x2x1025x1024x31 1 := broadcastInDim S2x2x1025x1024x31 ![0, 1, 2, 3, 4] bcast_S2x2x1025x1024x1_S2x2x1025x1024x31_0_1_2_3_4 arg0
  let v2 : FVec F S2x2x1025x1024x31 .f32 := broadcastInDim S2x2x1025x1024x31 ![] bcast_S_S2x2x1025x1024x31 v0
  let v3 : FVec F S2x2x1025x1024x31 .f32 := select v1 v2 arg2
  v3

def fn_quantile_part1 {F : FTy → Type} [FloatOps F] (v4 : FVec F S2x2x1025x1024x31 .f32) (v8 : FVec F S_ .f32) (v12 : FVec F S_ .f32) (v13 : FVec F S_ .f32) : FVec F S2x2x1025x1024 .f32 :=
  let cst_8 : FVec F S_ .f32 := constant S_ .f32 0x00000000#32
  let v14 : FVec F S_ .f32 := (fun lo x hi => minimumf (maximumf x lo) hi) cst_8 v8 v13
  let v15 : IVec S_ 32 := fptosi 32 v12
  let v16 : IVec S_ 32 := fptosi 32 v14
  let v17 : IVec S1 32 := broadcastInDim S1 ![] bcast_S_S1 v15
  let v18 : FVec F S2x2x1025x1024 .f32 := (fun x i => Host.gather gather_S2x2x1025x1024x31_S1_S2x2x1025x1024_0123_4_n_n_4_0_22102510241 x i) v4 v17
  let v19 : IVec S1 32 := broadcastInDim S1 ![] bcast_S_S1 v16
  let v20 : FVec F S2x2x1025x1024 .f32 := (fun x i => Host.gather gather_S2x2x1025x1024x31_S1_S2x2x1025x1024_0123_4_n_n_4_0_22102510241 x i) v4 v19
  let v21 : FVec F S2x2x1025x1024 .f32 := addf v18 v20
  let cst_9 : FVec F S_ .f32 := constant S_ .f32 0x3F000000#32
  let v22 : FVec F S2x2x1025x1024 .f32 := broadcastInDim S2x2x1025x1024 ![] bcast_S_S2x2x1025x1024 cst_9
  let v23 : FVec F S2x2x1025x1024 .f32 := mulf v21 v22
  v23

def fn_quantile {F : FTy → Type} [FloatOps F] (arg0 : FVec F S2x2x1025x1024x31 .f32) (arg1 : FVec F S_ .f32) : FVec F S2x2x1025x1024 .f32 :=
  let v0 : IVec S2x2x1025x1024x31 1 := cmpf .une arg0 arg0
  let c : IVec S_ 1 := constantI S_ 1 0#1
  let v1 : IVec S2x2x1025x1024 1 := (fun x v => Host.reduce IntOp.ori x v reducesTo_S2x2x1025x1024x31_S2x2x1025x1024_d4 h_S_) v0 c
  let v2 : IVec S2x2x1025x1024x1 1 := broadcastInDim S2x2x1025x1024x1 ![0, 1, 2, 3] bcast_S2x2x1025x1024_S2x2x1025x1024x1_0_1_2_3 v1
  let cst : FVec F S_ .f32 := constant S_ .f32 0x7FC00000#32
  let v3 : FVec F S2x2x1025x1024x31 .f32 := fn_where (F := F) v2 cst arg0
  let v4 : FVec F S2x2x1025x1024x31 .f32 := (fun x => Host.sort S2x2x1025x1024x31 4 comparator_f32_d4 x) v3
  let cst_0 : FVec F S_ .f32 := constant S_ .f32 0x41F80000#32
  let cst_1 : FVec F S_ .f32 := constant S_ .f32 0x3F800000#32
  let v5 : FVec F S_ .f32 := subf cst_0 cst_1
  let v6 : FVec F S_ .f32 := mulf arg1 v5
  let v7 : FVec F S_ .f32 := Host.floor v6
  let v8 : FVec F S_ .f32 := Host.ceil v6
  let v9 : FVec F S_ .f32 := subf v6 v7
  let cst_2 : FVec F S_ .f32 := constant S_ .f32 0x3F800000#32
  let v10 : FVec F S_ .f32 := subf cst_2 v9
  let cst_3 : FVec F S_ .f32 := constant S_ .f32 0x41F80000#32
  let cst_4 : FVec F S_ .f32 := constant S_ .f32 0x3F800000#32
  let v11 : FVec F S_ .f32 := subf cst_3 cst_4
  let cst_5 : FVec F S_ .f32 := constant S_ .f32 0x00000000#32
  let v12 : FVec F S_ .f32 := (fun lo x hi => minimumf (maximumf x lo) hi) cst_5 v7 v11
  let cst_6 : FVec F S_ .f32 := constant S_ .f32 0x41F80000#32
  let cst_7 : FVec F S_ .f32 := constant S_ .f32 0x3F800000#32
  let v13 : FVec F S_ .f32 := subf cst_6 cst_7
  fn_quantile_part1 (F := F) v4 v8 v12 v13

def fn_median {F : FTy → Type} [FloatOps F] (arg0 : FVec F S2x2x1025x1024x31 .f32) : FVec F S2x2x1025x1024 .f32 :=
  let cst : FVec F S_ .f32 := constant S_ .f32 0x3F000000#32
  let v0 : FVec F S2x2x1025x1024 .f32 := fn_quantile (F := F) arg0 cst
  v0

def fn_pad_3 {F : FTy → Type} [FloatOps F] (arg0 : FVec F S2x2x1025x1024 .f32) (arg1 : IVec S_ 32) : FVec F S2x2x1055x1024 .f32 :=
  let v0 : FVec F S_ .f32 := sitofp .f32 arg1
  let v1 : FVec F S2x2x1055x1024 .f32 := (fun x v => pad S2x2x1055x1024 ![0, 0, 15, 0] ![0, 0, 15, 0] ![0, 0, 0, 0] x v pads_S2x2x1025x1024_S2x2x1055x1024_000_000_15150_000 h_S_) arg0 v0
  v1

def fn_shifts_4 {F : FTy → Type} [FloatOps F] (arg0 : FVec F S2x2x1055x1024x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 0, 0, 0] · slices_S2x2x1055x1024x1_S2x2x1025x1024x1_0_0_0_0_0) arg0
  let v1 : FVec F S2x2x1025x1024x1 .f32 := (extractStridedSlice S2x2x1025x1024x1 ![0, 0, 1, 0, 0] · slices_S2x2x1055x1024x1_S2x2x1025x1024x1_0_0_1_0_0) arg0
  let v2 : FVec F S2x2x1025x1024x1 .f32 := (extractStridedSlice S2x2x1025x1024x1 ![0, 0, 2, 0, 0] · slices_S2x2x1055x1024x1_S2x2x1025x1024x1_0_0_2_0_0) arg0
  let v3 : FVec F S2x2x1025x1024x1 .f32 := (extractStridedSlice S2x2x1025x1024x1 ![0, 0, 3, 0, 0] · slices_S2x2x1055x1024x1_S2x2x1025x1024x1_0_0_3_0_0) arg0
  let v4 : FVec F S2x2x1025x1024x1 .f32 := (extractStridedSlice S2x2x1025x1024x1 ![0, 0, 4, 0, 0] · slices_S2x2x1055x1024x1_S2x2x1025x1024x1_0_0_4_0_0) arg0
  let v5 : FVec F S2x2x1025x1024x1 .f32 := (extractStridedSlice S2x2x1025x1024x1 ![0, 0, 5, 0, 0] · slices_S2x2x1055x1024x1_S2x2x1025x1024x1_0_0_5_0_0) arg0
  let v6 : FVec F S2x2x1025x1024x1 .f32 := (extractStridedSlice S2x2x1025x1024x1 ![0, 0, 6, 0, 0] · slices_S2x2x1055x1024x1_S2x2x1025x1024x1_0_0_6_0_0) arg0
  let v7 : FVec F S2x2x1025x1024x1 .f32 := (extractStridedSlice S2x2x1025x1024x1 ![0, 0, 7, 0, 0] · slices_S2x2x1055x1024x1_S2x2x1025x1024x1_0_0_7_0_0) arg0
  (v0, v1, v2, v3, v4, v5, v6, v7)

def fn_shifts_5 {F : FTy → Type} [FloatOps F] (arg0 : FVec F S2x2x1055x1024x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 8, 0, 0] · slices_S2x2x1055x1024x1_S2x2x1025x1024x1_0_0_8_0_0) arg0
  let v1 : FVec F S2x2x1025x1024x1 .f32 := (extractStridedSlice S2x2x1025x1024x1 ![0, 0, 9, 0, 0] · slices_S2x2x1055x1024x1_S2x2x1025x1024x1_0_0_9_0_0) arg0
  let v2 : FVec F S2x2x1025x1024x1 .f32 := (extractStridedSlice S2x2x1025x1024x1 ![0, 0, 10, 0, 0] · slices_S2x2x1055x1024x1_S2x2x1025x1024x1_0_0_10_0_0) arg0
  let v3 : FVec F S2x2x1025x1024x1 .f32 := (extractStridedSlice S2x2x1025x1024x1 ![0, 0, 11, 0, 0] · slices_S2x2x1055x1024x1_S2x2x1025x1024x1_0_0_11_0_0) arg0
  let v4 : FVec F S2x2x1025x1024x1 .f32 := (extractStridedSlice S2x2x1025x1024x1 ![0, 0, 12, 0, 0] · slices_S2x2x1055x1024x1_S2x2x1025x1024x1_0_0_12_0_0) arg0
  let v5 : FVec F S2x2x1025x1024x1 .f32 := (extractStridedSlice S2x2x1025x1024x1 ![0, 0, 13, 0, 0] · slices_S2x2x1055x1024x1_S2x2x1025x1024x1_0_0_13_0_0) arg0
  let v6 : FVec F S2x2x1025x1024x1 .f32 := (extractStridedSlice S2x2x1025x1024x1 ![0, 0, 14, 0, 0] · slices_S2x2x1055x1024x1_S2x2x1025x1024x1_0_0_14_0_0) arg0
  let v7 : FVec F S2x2x1025x1024x1 .f32 := (extractStridedSlice S2x2x1025x1024x1 ![0, 0, 15, 0, 0] · slices_S2x2x1055x1024x1_S2x2x1025x1024x1_0_0_15_0_0) arg0
  (v0, v1, v2, v3, v4, v5, v6, v7)

def fn_shifts_6 {F : FTy → Type} [FloatOps F] (arg0 : FVec F S2x2x1055x1024x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 16, 0, 0] · slices_S2x2x1055x1024x1_S2x2x1025x1024x1_0_0_16_0_0) arg0
  let v1 : FVec F S2x2x1025x1024x1 .f32 := (extractStridedSlice S2x2x1025x1024x1 ![0, 0, 17, 0, 0] · slices_S2x2x1055x1024x1_S2x2x1025x1024x1_0_0_17_0_0) arg0
  let v2 : FVec F S2x2x1025x1024x1 .f32 := (extractStridedSlice S2x2x1025x1024x1 ![0, 0, 18, 0, 0] · slices_S2x2x1055x1024x1_S2x2x1025x1024x1_0_0_18_0_0) arg0
  let v3 : FVec F S2x2x1025x1024x1 .f32 := (extractStridedSlice S2x2x1025x1024x1 ![0, 0, 19, 0, 0] · slices_S2x2x1055x1024x1_S2x2x1025x1024x1_0_0_19_0_0) arg0
  let v4 : FVec F S2x2x1025x1024x1 .f32 := (extractStridedSlice S2x2x1025x1024x1 ![0, 0, 20, 0, 0] · slices_S2x2x1055x1024x1_S2x2x1025x1024x1_0_0_20_0_0) arg0
  let v5 : FVec F S2x2x1025x1024x1 .f32 := (extractStridedSlice S2x2x1025x1024x1 ![0, 0, 21, 0, 0] · slices_S2x2x1055x1024x1_S2x2x1025x1024x1_0_0_21_0_0) arg0
  let v6 : FVec F S2x2x1025x1024x1 .f32 := (extractStridedSlice S2x2x1025x1024x1 ![0, 0, 22, 0, 0] · slices_S2x2x1055x1024x1_S2x2x1025x1024x1_0_0_22_0_0) arg0
  let v7 : FVec F S2x2x1025x1024x1 .f32 := (extractStridedSlice S2x2x1025x1024x1 ![0, 0, 23, 0, 0] · slices_S2x2x1055x1024x1_S2x2x1025x1024x1_0_0_23_0_0) arg0
  (v0, v1, v2, v3, v4, v5, v6, v7)

def fn_shifts_7 {F : FTy → Type} [FloatOps F] (arg0 : FVec F S2x2x1055x1024x1 .f32) : FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 × FVec F S2x2x1025x1024x1 .f32 :=
  let v0 : FVec F S2x2x1025x1024x1 .f32 := (extractStridedSlice S2x2x1025x1024x1 ![0, 0, 24, 0, 0] · slices_S2x2x1055x1024x1_S2x2x1025x1024x1_0_0_24_0_0) arg0
  let v1 : FVec F S2x2x1025x1024x1 .f32 := (extractStridedSlice S2x2x1025x1024x1 ![0, 0, 25, 0, 0] · slices_S2x2x1055x1024x1_S2x2x1025x1024x1_0_0_25_0_0) arg0
  let v2 : FVec F S2x2x1025x1024x1 .f32 := (extractStridedSlice S2x2x1025x1024x1 ![0, 0, 26, 0, 0] · slices_S2x2x1055x1024x1_S2x2x1025x1024x1_0_0_26_0_0) arg0
  let v3 : FVec F S2x2x1025x1024x1 .f32 := (extractStridedSlice S2x2x1025x1024x1 ![0, 0, 27, 0, 0] · slices_S2x2x1055x1024x1_S2x2x1025x1024x1_0_0_27_0_0) arg0
  let v4 : FVec F S2x2x1025x1024x1 .f32 := (extractStridedSlice S2x2x1025x1024x1 ![0, 0, 28, 0, 0] · slices_S2x2x1055x1024x1_S2x2x1025x1024x1_0_0_28_0_0) arg0
  let v5 : FVec F S2x2x1025x1024x1 .f32 := (extractStridedSlice S2x2x1025x1024x1 ![0, 0, 29, 0, 0] · slices_S2x2x1055x1024x1_S2x2x1025x1024x1_0_0_29_0_0) arg0
  let v6 : FVec F S2x2x1025x1024x1 .f32 := (extractStridedSlice S2x2x1025x1024x1 ![0, 0, 30, 0, 0] · slices_S2x2x1055x1024x1_S2x2x1025x1024x1_0_0_30_0_0) arg0
  (v0, v1, v2, v3, v4, v5, v6)

def fn_part3 {F : FTy → Type} [FloatOps F] (main_arg0 : FVec F S2x2x1025x1024 .f32) (main_v9 : FVec F S2x2x1025x1024 .f32) (main_v12_0 : FVec F S2x2x1025x1024x1 .f32) (main_v12_1 : FVec F S2x2x1025x1024x1 .f32) (main_v12_2 : FVec F S2x2x1025x1024x1 .f32) (main_v12_3 : FVec F S2x2x1025x1024x1 .f32) (main_v12_4 : FVec F S2x2x1025x1024x1 .f32) (main_v12_5 : FVec F S2x2x1025x1024x1 .f32) (main_v12_6 : FVec F S2x2x1025x1024x1 .f32) (main_v12_7 : FVec F S2x2x1025x1024x1 .f32) (main_v13_0 : FVec F S2x2x1025x1024x1 .f32) (main_v13_1 : FVec F S2x2x1025x1024x1 .f32) (main_v13_2 : FVec F S2x2x1025x1024x1 .f32) (main_v13_3 : FVec F S2x2x1025x1024x1 .f32) (main_v13_4 : FVec F S2x2x1025x1024x1 .f32) (main_v13_5 : FVec F S2x2x1025x1024x1 .f32) (main_v13_6 : FVec F S2x2x1025x1024x1 .f32) (main_v13_7 : FVec F S2x2x1025x1024x1 .f32) (main_v14_0 : FVec F S2x2x1025x1024x1 .f32) (main_v14_1 : FVec F S2x2x1025x1024x1 .f32) (main_v14_2 : FVec F S2x2x1025x1024x1 .f32) (main_v14_3 : FVec F S2x2x1025x1024x1 .f32) (main_v14_4 : FVec F S2x2x1025x1024x1 .f32) (main_v14_5 : FVec F S2x2x1025x1024x1 .f32) (main_v14_6 : FVec F S2x2x1025x1024x1 .f32) (main_v14_7 : FVec F S2x2x1025x1024x1 .f32) (main_v15_0 : FVec F S2x2x1025x1024x1 .f32) (main_v15_1 : FVec F S2x2x1025x1024x1 .f32) (main_v15_2 : FVec F S2x2x1025x1024x1 .f32) (main_v15_3 : FVec F S2x2x1025x1024x1 .f32) (main_v15_4 : FVec F S2x2x1025x1024x1 .f32) (main_v15_5 : FVec F S2x2x1025x1024x1 .f32) (main_v15_6 : FVec F S2x2x1025x1024x1 .f32) : IVec S2x2x1025x1024 1 :=
  let main_v16 : FVec F S2x2x1025x1024x16 .f32 := concatenate S2x2x1025x1024x16 4 [⟨S2x2x1025x1024x1, main_v12_0⟩, ⟨S2x2x1025x1024x1, main_v12_1⟩, ⟨S2x2x1025x1024x1, main_v12_2⟩, ⟨S2x2x1025x1024x1, main_v12_3⟩, ⟨S2x2x1025x1024x1, main_v12_4⟩, ⟨S2x2x1025x1024x1, main_v12_5⟩, ⟨S2x2x1025x1024x1, main_v12_6⟩, ⟨S2x2x1025x1024x1, main_v12_7⟩, ⟨S2x2x1025x1024x1, main_v13_0⟩, ⟨S2x2x1025x1024x1, main_v13_1⟩, ⟨S2x2x1025x1024x1, main_v13_2⟩, ⟨S2x2x1025x1024x1, main_v13_3⟩, ⟨S2x2x1025x1024x1, main_v13_4⟩, ⟨S2x2x1025x1024x1, main_v13_5⟩, ⟨S2x2x1025x1024x1, main_v13_6⟩, ⟨S2x2x1025x1024x1, main_v13_7⟩] concatenates_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x16_d4
  let main_v17 : FVec F S2x2x1025x1024x15 .f32 := concatenate S2x2x1025x1024x15 4 [⟨S2x2x1025x1024x1, main_v14_0⟩, ⟨S2x2x1025x1024x1, main_v14_1⟩, ⟨S2x2x1025x1024x1, main_v14_2⟩, ⟨S2x2x1025x1024x1, main_v14_3⟩, ⟨S2x2x1025x1024x1, main_v14_4⟩, ⟨S2x2x1025x1024x1, main_v14_5⟩, ⟨S2x2x1025x1024x1, main_v14_6⟩, ⟨S2x2x1025x1024x1, main_v14_7⟩, ⟨S2x2x1025x1024x1, main_v15_0⟩, ⟨S2x2x1025x1024x1, main_v15_1⟩, ⟨S2x2x1025x1024x1, main_v15_2⟩, ⟨S2x2x1025x1024x1, main_v15_3⟩, ⟨S2x2x1025x1024x1, main_v15_4⟩, ⟨S2x2x1025x1024x1, main_v15_5⟩, ⟨S2x2x1025x1024x1, main_v15_6⟩] concatenates_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x15_d4
  let main_v18 : FVec F S2x2x1025x1024x31 .f32 := (fun a b => concatenate S2x2x1025x1024x31 4 [⟨S2x2x1025x1024x16, a⟩, ⟨S2x2x1025x1024x15, b⟩] concatenates_S2x2x1025x1024x16_S2x2x1025x1024x15_S2x2x1025x1024x31_d4) main_v16 main_v17
  let main_v19 : FVec F S2x2x1025x1024 .f32 := fn_median (F := F) main_v18
  let main_cst : FVec F S_ .f32 := constant S_ .f32 0x7F800000#32
  let main_v20 : FVec F S2x2x1025x1024 .f32 := broadcastInDim S2x2x1025x1024 ![] bcast_S_S2x2x1025x1024 main_cst
  let main_v21 : IVec S2x2x1025x1024 1 := cmpf .olt main_v9 main_v20
  let main_cst_1 : FVec F S_ .f32 := constant S_ .f32 0x7F800000#32
  let main_v22 : FVec F S2x2x1025x1024 .f32 := broadcastInDim S2x2x1025x1024 ![] bcast_S_S2x2x1025x1024 main_cst_1
  let main_v23 : IVec S2x2x1025x1024 1 := cmpf .olt main_v19 main_v22
  let main_v24 : IVec S2x2x1025x1024 1 := andi main_v21 main_v23
  let main_cst_2 : FVec F S_ .f32 := constant S_ .f32 0x00000000#32
  let main_v25 : FVec F S2x2x1025x1024 .f32 := broadcastInDim S2x2x1025x1024 ![] bcast_S_S2x2x1025x1024 main_cst_2
  let main_v26 : IVec S2x2x1025x1024 1 := cmpf .une main_v9 main_v25
  let main_cst_3 : FVec F S_ .f32 := constant S_ .f32 0x00000000#32
  let main_v27 : FVec F S2x2x1025x1024 .f32 := broadcastInDim S2x2x1025x1024 ![] bcast_S_S2x2x1025x1024 main_cst_3
  let main_v28 : IVec S2x2x1025x1024 1 := cmpf .une main_v19 main_v27
  let main_v29 : IVec S2x2x1025x1024 1 := ori main_v26 main_v28
  let main_v30 : IVec S2x2x1025x1024 1 := andi main_v24 main_v29
  let main_cst_4 : FVec F S_ .f32 := constant S_ .f32 0x00000000#32
  let main_v31 : FVec F S2x2x1025x1024 .f32 := broadcastInDim S2x2x1025x1024 ![] bcast_S_S2x2x1025x1024 main_cst_4
  let main_v32 : IVec S2x2x1025x1024 1 := cmpf .oeq main_arg0 main_v31
  let main_v33 : IVec S2x2x1025x1024 1 := ori main_v30 main_v32
  main_v33

def fn_part2 {F : FTy → Type} [FloatOps F] (main_arg0 : FVec F S2x2x1025x1024 .f32) (main_v9 : FVec F S2x2x1025x1024 .f32) (main_v11 : FVec F S2x2x1055x1024x1 .f32) (main_v12_0 : FVec F S2x2x1025x1024x1 .f32) (main_v12_1 : FVec F S2x2x1025x1024x1 .f32) (main_v12_2 : FVec F S2x2x1025x1024x1 .f32) (main_v12_3 : FVec F S2x2x1025x1024x1 .f32) (main_v12_4 : FVec F S2x2x1025x1024x1 .f32) (main_v12_5 : FVec F S2x2x1025x1024x1 .f32) (main_v12_6 : FVec F S2x2x1025x1024x1 .f32) : IVec S2x2x1025x1024 1 :=
  let main_v12_7 : FVec F S2x2x1025x1024x1 .f32 := (fn_shifts_4 (F := F) main_v11).2.2.2.2.2.2.2
  let main_v13_0 : FVec F S2x2x1025x1024x1 .f32 := (fn_shifts_5 (F := F) main_v11).1
  let main_v13_1 : FVec F S2x2x1025x1024x1 .f32 := (fn_shifts_5 (F := F) main_v11).2.1
  let main_v13_2 : FVec F S2x2x1025x1024x1 .f32 := (fn_shifts_5 (F := F) main_v11).2.2.1
  let main_v13_3 : FVec F S2x2x1025x1024x1 .f32 := (fn_shifts_5 (F := F) main_v11).2.2.2.1
  let main_v13_4 : FVec F S2x2x1025x1024x1 .f32 := (fn_shifts_5 (F := F) main_v11).2.2.2.2.1
  let main_v13_5 : FVec F S2x2x1025x1024x1 .f32 := (fn_shifts_5 (F := F) main_v11).2.2.2.2.2.1
  let main_v13_6 : FVec F S2x2x1025x1024x1 .f32 := (fn_shifts_5 (F := F) main_v11).2.2.2.2.2.2.1
  let main_v13_7 : FVec F S2x2x1025x1024x1 .f32 := (fn_shifts_5 (F := F) main_v11).2.2.2.2.2.2.2
  let main_v14_0 : FVec F S2x2x1025x1024x1 .f32 := (fn_shifts_6 (F := F) main_v11).1
  let main_v14_1 : FVec F S2x2x1025x1024x1 .f32 := (fn_shifts_6 (F := F) main_v11).2.1
  let main_v14_2 : FVec F S2x2x1025x1024x1 .f32 := (fn_shifts_6 (F := F) main_v11).2.2.1
  let main_v14_3 : FVec F S2x2x1025x1024x1 .f32 := (fn_shifts_6 (F := F) main_v11).2.2.2.1
  let main_v14_4 : FVec F S2x2x1025x1024x1 .f32 := (fn_shifts_6 (F := F) main_v11).2.2.2.2.1
  let main_v14_5 : FVec F S2x2x1025x1024x1 .f32 := (fn_shifts_6 (F := F) main_v11).2.2.2.2.2.1
  let main_v14_6 : FVec F S2x2x1025x1024x1 .f32 := (fn_shifts_6 (F := F) main_v11).2.2.2.2.2.2.1
  let main_v14_7 : FVec F S2x2x1025x1024x1 .f32 := (fn_shifts_6 (F := F) main_v11).2.2.2.2.2.2.2
  let main_v15_0 : FVec F S2x2x1025x1024x1 .f32 := (fn_shifts_7 (F := F) main_v11).1
  let main_v15_1 : FVec F S2x2x1025x1024x1 .f32 := (fn_shifts_7 (F := F) main_v11).2.1
  let main_v15_2 : FVec F S2x2x1025x1024x1 .f32 := (fn_shifts_7 (F := F) main_v11).2.2.1
  let main_v15_3 : FVec F S2x2x1025x1024x1 .f32 := (fn_shifts_7 (F := F) main_v11).2.2.2.1
  let main_v15_4 : FVec F S2x2x1025x1024x1 .f32 := (fn_shifts_7 (F := F) main_v11).2.2.2.2.1
  let main_v15_5 : FVec F S2x2x1025x1024x1 .f32 := (fn_shifts_7 (F := F) main_v11).2.2.2.2.2.1
  let main_v15_6 : FVec F S2x2x1025x1024x1 .f32 := (fn_shifts_7 (F := F) main_v11).2.2.2.2.2.2
  fn_part3 (F := F) main_arg0 main_v9 main_v12_0 main_v12_1 main_v12_2 main_v12_3 main_v12_4 main_v12_5 main_v12_6 main_v12_7 main_v13_0 main_v13_1 main_v13_2 main_v13_3 main_v13_4 main_v13_5 main_v13_6 main_v13_7 main_v14_0 main_v14_1 main_v14_2 main_v14_3 main_v14_4 main_v14_5 main_v14_6 main_v14_7 main_v15_0 main_v15_1 main_v15_2 main_v15_3 main_v15_4 main_v15_5 main_v15_6

def fn_part1 {F : FTy → Type} [FloatOps F] (main_arg0 : FVec F S2x2x1025x1024 .f32) (main_v1 : FVec F S2x2x1025x1054x1 .f32) (main_v2_0 : FVec F S2x2x1025x1024x1 .f32) (main_v2_1 : FVec F S2x2x1025x1024x1 .f32) (main_v2_2 : FVec F S2x2x1025x1024x1 .f32) (main_v2_3 : FVec F S2x2x1025x1024x1 .f32) (main_v2_4 : FVec F S2x2x1025x1024x1 .f32) (main_v2_5 : FVec F S2x2x1025x1024x1 .f32) (main_v2_6 : FVec F S2x2x1025x1024x1 .f32) (main_v2_7 : FVec F S2x2x1025x1024x1 .f32) (main_v3_0 : FVec F S2x2x1025x1024x1 .f32) (main_v3_1 : FVec F S2x2x1025x1024x1 .f32) (main_v3_2 : FVec F S2x2x1025x1024x1 .f32) (main_v3_3 : FVec F S2x2x1025x1024x1 .f32) (main_v3_4 : FVec F S2x2x1025x1024x1 .f32) (main_v3_5 : FVec F S2x2x1025x1024x1 .f32) (main_v3_6 : FVec F S2x2x1025x1024x1 .f32) (main_v3_7 : FVec F S2x2x1025x1024x1 .f32) (main_v4_0 : FVec F S2x2x1025x1024x1 .f32) (main_v4_1 : FVec F S2x2x1025x1024x1 .f32) (main_v4_2 : FVec F S2x2x1025x1024x1 .f32) (main_v4_3 : FVec F S2x2x1025x1024x1 .f32) (main_v4_4 : FVec F S2x2x1025x1024x1 .f32) : IVec S2x2x1025x1024 1 :=
  let main_v4_5 : FVec F S2x2x1025x1024x1 .f32 := (fn_shifts_1 (F := F) main_v1).2.2.2.2.2.1
  let main_v4_6 : FVec F S2x2x1025x1024x1 .f32 := (fn_shifts_1 (F := F) main_v1).2.2.2.2.2.2.1
  let main_v4_7 : FVec F S2x2x1025x1024x1 .f32 := (fn_shifts_1 (F := F) main_v1).2.2.2.2.2.2.2
  let main_v5_0 : FVec F S2x2x1025x1024x1 .f32 := (fn_shifts_2 (F := F) main_v1).1
  let main_v5_1 : FVec F S2x2x1025x1024x1 .f32 := (fn_shifts_2 (F := F) main_v1).2.1
  let main_v5_2 : FVec F S2x2x1025x1024x1 .f32 := (fn_shifts_2 (F := F) main_v1).2.2.1
  let main_v5_3 : FVec F S2x2x1025x1024x1 .f32 := (fn_shifts_2 (F := F) main_v1).2.2.2.1
  let main_v5_4 : FVec F S2x2x1025x1024x1 .f32 := (fn_shifts_2 (F := F) main_v1).2.2.2.2.1
  let main_v5_5 : FVec F S2x2x1025x1024x1 .f32 := (fn_shifts_2 (F := F) main_v1).2.2.2.2.2.1
  let main_v5_6 : FVec F S2x2x1025x1024x1 .f32 := (fn_shifts_2 (F := F) main_v1).2.2.2.2.2.2
  let main_v6 : FVec F S2x2x1025x1024x16 .f32 := concatenate S2x2x1025x1024x16 4 [⟨S2x2x1025x1024x1, main_v2_0⟩, ⟨S2x2x1025x1024x1, main_v2_1⟩, ⟨S2x2x1025x1024x1, main_v2_2⟩, ⟨S2x2x1025x1024x1, main_v2_3⟩, ⟨S2x2x1025x1024x1, main_v2_4⟩, ⟨S2x2x1025x1024x1, main_v2_5⟩, ⟨S2x2x1025x1024x1, main_v2_6⟩, ⟨S2x2x1025x1024x1, main_v2_7⟩, ⟨S2x2x1025x1024x1, main_v3_0⟩, ⟨S2x2x1025x1024x1, main_v3_1⟩, ⟨S2x2x1025x1024x1, main_v3_2⟩, ⟨S2x2x1025x1024x1, main_v3_3⟩, ⟨S2x2x1025x1024x1, main_v3_4⟩, ⟨S2x2x1025x1024x1, main_v3_5⟩, ⟨S2x2x1025x1024x1, main_v3_6⟩, ⟨S2x2x1025x1024x1, main_v3_7⟩] concatenates_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x16_d4
  let main_v7 : FVec F S2x2x1025x1024x15 .f32 := concatenate S2x2x1025x1024x15 4 [⟨S2x2x1025x1024x1, main_v4_0⟩, ⟨S2x2x1025x1024x1, main_v4_1⟩, ⟨S2x2x1025x1024x1, main_v4_2⟩, ⟨S2x2x1025x1024x1, main_v4_3⟩, ⟨S2x2x1025x1024x1, main_v4_4⟩, ⟨S2x2x1025x1024x1, main_v4_5⟩, ⟨S2x2x1025x1024x1, main_v4_6⟩, ⟨S2x2x1025x1024x1, main_v4_7⟩, ⟨S2x2x1025x1024x1, main_v5_0⟩, ⟨S2x2x1025x1024x1, main_v5_1⟩, ⟨S2x2x1025x1024x1, main_v5_2⟩, ⟨S2x2x1025x1024x1, main_v5_3⟩, ⟨S2x2x1025x1024x1, main_v5_4⟩, ⟨S2x2x1025x1024x1, main_v5_5⟩, ⟨S2x2x1025x1024x1, main_v5_6⟩] concatenates_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x1_S2x2x1025x1024x15_d4
  let main_v8 : FVec F S2x2x1025x1024x31 .f32 := (fun a b => concatenate S2x2x1025x1024x31 4 [⟨S2x2x1025x1024x16, a⟩, ⟨S2x2x1025x1024x15, b⟩] concatenates_S2x2x1025x1024x16_S2x2x1025x1024x15_S2x2x1025x1024x31_d4) main_v6 main_v7
  let main_v9 : FVec F S2x2x1025x1024 .f32 := fn_median (F := F) main_v8
  let main_c_0 : IVec S_ 32 := constantI S_ 32 0#32
  let main_v10 : FVec F S2x2x1055x1024 .f32 := fn_pad_3 (F := F) main_arg0 main_c_0
  let main_v11 : FVec F S2x2x1055x1024x1 .f32 := broadcastInDim S2x2x1055x1024x1 ![0, 1, 2, 3] bcast_S2x2x1055x1024_S2x2x1055x1024x1_0_1_2_3 main_v10
  let main_v12_0 : FVec F S2x2x1025x1024x1 .f32 := (fn_shifts_4 (F := F) main_v11).1
  let main_v12_1 : FVec F S2x2x1025x1024x1 .f32 := (fn_shifts_4 (F := F) main_v11).2.1
  let main_v12_2 : FVec F S2x2x1025x1024x1 .f32 := (fn_shifts_4 (F := F) main_v11).2.2.1
  let main_v12_3 : FVec F S2x2x1025x1024x1 .f32 := (fn_shifts_4 (F := F) main_v11).2.2.2.1
  let main_v12_4 : FVec F S2x2x1025x1024x1 .f32 := (fn_shifts_4 (F := F) main_v11).2.2.2.2.1
  let main_v12_5 : FVec F S2x2x1025x1024x1 .f32 := (fn_shifts_4 (F := F) main_v11).2.2.2.2.2.1
  let main_v12_6 : FVec F S2x2x1025x1024x1 .f32 := (fn_shifts_4 (F := F) main_v11).2.2.2.2.2.2.1
  fn_part2 (F := F) main_arg0 main_v9 main_v11 main_v12_0 main_v12_1 main_v12_2 main_v12_3 main_v12_4 main_v12_5 main_v12_6

def fn {F : FTy → Type} [FloatOps F] (main_arg0 : FVec F S2x2x1025x1024 .f32) : IVec S2x2x1025x1024 1 :=
  let main_c : IVec S_ 32 := constantI S_ 32 0#32
  let main_v0 : FVec F S2x2x1025x1054 .f32 := fn_pad (F := F) main_arg0 main_c
  let main_v1 : FVec F S2x2x1025x1054x1 .f32 := broadcastInDim S2x2x1025x1054x1 ![0, 1, 2, 3] bcast_S2x2x1025x1054_S2x2x1025x1054x1_0_1_2_3 main_v0
  let main_v2_0 : FVec F S2x2x1025x1024x1 .f32 := (fn_shifts (F := F) main_v1).1
  let main_v2_1 : FVec F S2x2x1025x1024x1 .f32 := (fn_shifts (F := F) main_v1).2.1
  let main_v2_2 : FVec F S2x2x1025x1024x1 .f32 := (fn_shifts (F := F) main_v1).2.2.1
  let main_v2_3 : FVec F S2x2x1025x1024x1 .f32 := (fn_shifts (F := F) main_v1).2.2.2.1
  let main_v2_4 : FVec F S2x2x1025x1024x1 .f32 := (fn_shifts (F := F) main_v1).2.2.2.2.1
  let main_v2_5 : FVec F S2x2x1025x1024x1 .f32 := (fn_shifts (F := F) main_v1).2.2.2.2.2.1
  let main_v2_6 : FVec F S2x2x1025x1024x1 .f32 := (fn_shifts (F := F) main_v1).2.2.2.2.2.2.1
  let main_v2_7 : FVec F S2x2x1025x1024x1 .f32 := (fn_shifts (F := F) main_v1).2.2.2.2.2.2.2
  let main_v3_0 : FVec F S2x2x1025x1024x1 .f32 := (fn_shifts_0 (F := F) main_v1).1
  let main_v3_1 : FVec F S2x2x1025x1024x1 .f32 := (fn_shifts_0 (F := F) main_v1).2.1
  let main_v3_2 : FVec F S2x2x1025x1024x1 .f32 := (fn_shifts_0 (F := F) main_v1).2.2.1
  let main_v3_3 : FVec F S2x2x1025x1024x1 .f32 := (fn_shifts_0 (F := F) main_v1).2.2.2.1
  let main_v3_4 : FVec F S2x2x1025x1024x1 .f32 := (fn_shifts_0 (F := F) main_v1).2.2.2.2.1
  let main_v3_5 : FVec F S2x2x1025x1024x1 .f32 := (fn_shifts_0 (F := F) main_v1).2.2.2.2.2.1
  let main_v3_6 : FVec F S2x2x1025x1024x1 .f32 := (fn_shifts_0 (F := F) main_v1).2.2.2.2.2.2.1
  let main_v3_7 : FVec F S2x2x1025x1024x1 .f32 := (fn_shifts_0 (F := F) main_v1).2.2.2.2.2.2.2
  let main_v4_0 : FVec F S2x2x1025x1024x1 .f32 := (fn_shifts_1 (F := F) main_v1).1
  let main_v4_1 : FVec F S2x2x1025x1024x1 .f32 := (fn_shifts_1 (F := F) main_v1).2.1
  let main_v4_2 : FVec F S2x2x1025x1024x1 .f32 := (fn_shifts_1 (F := F) main_v1).2.2.1
  let main_v4_3 : FVec F S2x2x1025x1024x1 .f32 := (fn_shifts_1 (F := F) main_v1).2.2.2.1
  let main_v4_4 : FVec F S2x2x1025x1024x1 .f32 := (fn_shifts_1 (F := F) main_v1).2.2.2.2.1
  fn_part1 (F := F) main_arg0 main_v1 main_v2_0 main_v2_1 main_v2_2 main_v2_3 main_v2_4 main_v2_5 main_v2_6 main_v2_7 main_v3_0 main_v3_1 main_v3_2 main_v3_3 main_v3_4 main_v3_5 main_v3_6 main_v3_7 main_v4_0 main_v4_1 main_v4_2 main_v4_3 main_v4_4
-- ==== Kernel.lean ====
abbrev S2x2x1025x1024 : Shape := ⟨4, ![2, 2, 1025, 1024]⟩
abbrev S4x1025x1024 : Shape := ⟨3, ![4, 1025, 1024]⟩
abbrev S_ : Shape := ⟨0, ![]⟩
abbrev S4x1152x1024 : Shape := ⟨3, ![4, 1152, 1024]⟩
abbrev S4x1152x1152 : Shape := ⟨3, ![4, 1152, 1152]⟩
abbrev S4x1184x1024 : Shape := ⟨3, ![4, 1184, 1024]⟩
abbrev S1x1152x1152 : Shape := ⟨3, ![1, 1152, 1152]⟩
abbrev S1x1184x1024 : Shape := ⟨3, ![1, 1184, 1024]⟩
abbrev S1x1152x128 : Shape := ⟨3, ![1, 1152, 128]⟩
abbrev S1x1152x256 : Shape := ⟨3, ![1, 1152, 256]⟩
abbrev S1152x256 : Shape := ⟨2, ![1152, 256]⟩
abbrev S1x1184x128 : Shape := ⟨3, ![1, 1184, 128]⟩
abbrev S1184x128 : Shape := ⟨2, ![1184, 128]⟩
abbrev S128x256 : Shape := ⟨2, ![128, 256]⟩
abbrev S128x128 : Shape := ⟨2, ![128, 128]⟩
abbrev S160x128 : Shape := ⟨2, ![160, 128]⟩
abbrev S1x128x128 : Shape := ⟨3, ![1, 128, 128]⟩

abbrev nBuf : Space → Nat
  | .hbm => 17
  | .vmem => 10
  | .smem => 0
  | _ => 0

abbrev bufTy : (tb : Table) → Fin (tcTables nBuf tb) → BufTy
  | .hbm, ⟨0, _⟩ => ⟨S2x2x1025x1024, .f32⟩
  | .hbm, ⟨1, _⟩ => ⟨S4x1025x1024, .f32⟩
  | .hbm, ⟨2, _⟩ => ⟨S_, .i32⟩
  | .hbm, ⟨3, _⟩ => ⟨S_, .f32⟩
  | .hbm, ⟨4, _⟩ => ⟨S4x1152x1024, .f32⟩
  | .hbm, ⟨5, _⟩ => ⟨S_, .i32⟩
  | .hbm, ⟨6, _⟩ => ⟨S_, .f32⟩
  | .hbm, ⟨7, _⟩ => ⟨S4x1152x1152, .f32⟩
  | .hbm, ⟨8, _⟩ => ⟨S_, .i32⟩
  | .hbm, ⟨9, _⟩ => ⟨S_, .f32⟩
  | .hbm, ⟨10, _⟩ => ⟨S4x1184x1024, .f32⟩
  | .hbm, ⟨11, _⟩ => ⟨S4x1152x1024, .f32⟩
  | .hbm, ⟨12, _⟩ => ⟨S4x1152x1024, .f32⟩
  | .hbm, ⟨13, _⟩ => ⟨S4x1025x1024, .f32⟩
  | .hbm, ⟨14, _⟩ => ⟨S2x2x1025x1024, .f32⟩
  | .hbm, ⟨15, _⟩ => ⟨S4x1025x1024, .f32⟩
  | .hbm, ⟨16, _⟩ => ⟨S2x2x1025x1024, .f32⟩
  | .local _ .vmem, ⟨0, _⟩ => ⟨S1x1152x1152, .f32⟩
  | .local _ .vmem, ⟨1, _⟩ => ⟨S1x1152x1152, .f32⟩
  | .local _ .vmem, ⟨2, _⟩ => ⟨S1x1184x1024, .f32⟩
  | .local _ .vmem, ⟨3, _⟩ => ⟨S1x1184x1024, .f32⟩
  | .local _ .vmem, ⟨4, _⟩ => ⟨S1x1152x128, .f32⟩
  | .local _ .vmem, ⟨5, _⟩ => ⟨S1x1152x128, .f32⟩
  | .local _ .vmem, ⟨6, _⟩ => ⟨S1x1152x128, .f32⟩
  | .local _ .vmem, ⟨7, _⟩ => ⟨S1x1152x128, .f32⟩
  | .local _ .vmem, ⟨8, _⟩ => ⟨S1x1152x128, .f32⟩
  | .local _ .vmem, ⟨9, _⟩ => ⟨S1x1152x128, .f32⟩
  | _, _ => ⟨S2x2x1025x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_c_1 : Ref sig .tc := ⟨.hbm, 8, rfl⟩
abbrev main_call2_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0 : Index := 0#32
  let c0_0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, 0, v2.toNat]
def k0_off2 (i : grid0.Coords) : Fin 3 → Nat :=
  let c0_1 : Index := 0#32
  let c0_2 : Index := 0#32
  let arg1 : BitVec 32 := BitVec.ofNat 32 (i 1).val
  let c128_i32 : BitVec 32 := 128#32
  let v0 : BitVec 32 := Scalar.muli arg1 c128_i32
  let v1 : BitVec 32 := v0
  let v5 : Index := Scalar.indexCast v1
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1152x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x2x1025x1024 : Shape := ⟨4, ![2, 2, 1025, 1024]⟩
abbrev S_ : Shape := ⟨0, ![]⟩
abbrev S2x2x1025x1054 : Shape := ⟨4, ![2, 2, 1025, 1054]⟩
abbrev S2x2x1025x1054x1 : Shape := ⟨5, ![2, 2, 1025, 1054, 1]⟩
abbrev S2x2x1025x1024x1 : Shape := ⟨5, ![2, 2, 1025, 1024, 1]⟩
abbrev S2x2x1025x1024x16 : Shape := ⟨5, ![2, 2, 1025, 1024, 16]⟩
abbrev S2x2x1025x1024x15 : Shape := ⟨5, ![2, 2, 1025, 1024, 15]⟩
abbrev S2x2x1025x1024x31 : Shape := ⟨5, ![2, 2, 1025, 1024, 31]⟩
abbrev S1 : Shape := ⟨1, ![1]⟩
abbrev S2x2x1055x1024 : Shape := ⟨4, ![2, 2, 1055, 1024]⟩
abbrev S2x2x1055x1024x1 : Shape := ⟨5, ![2, 2, 1055, 1024, 1]⟩

abbrev nBuf : Space → Nat
  | .hbm => 199
  | .vmem => 0
  | .smem => 0
  | _ => 0

abbrev hbmTy0_0 (i : Nat) : BufTy := match i % 128 with
  | 0 => ⟨S2x2x1025x1024, .f32⟩
  | 1 => ⟨S_, .i32⟩
  | 2 => ⟨S_, .f32⟩
  | 3 => ⟨S2x2x1025x1054, .f32⟩
  | 4 => ⟨S2x2x1025x1054x1, .f32⟩
  | 5 => ⟨S2x2x1025x1024x1, .f32⟩
  | 6 => ⟨S2x2x1025x1024x1, .f32⟩
  | 7 => ⟨S2x2x1025x1024x1, .f32⟩
  | 8 => ⟨S2x2x1025x1024x1, .f32⟩
  | 9 => ⟨S2x2x1025x1024x1, .f32⟩
  | 10 => ⟨S2x2x1025x1024x1, .f32⟩
  | 11 => ⟨S2x2x1025x1024x1, .f32⟩
  | 12 => ⟨S2x2x1025x1024x1, .f32⟩
  | 13 => ⟨S2x2x1025x1024x1, .f32⟩
  | 14 => ⟨S2x2x1025x1024x1, .f32⟩
  | 15 => ⟨S2x2x1025x1024x1, .f32⟩
  | 16 => ⟨S2x2x1025x1024x1, .f32⟩
  | 17 => ⟨S2x2x1025x1024x1, .f32⟩
  | 18 => ⟨S2x2x1025x1024x1, .f32⟩
  | 19 => ⟨S2x2x1025x1024x1, .f32⟩
  | 20 => ⟨S2x2x1025x1024x1, .f32⟩
  | 21 => ⟨S2x2x1025x1024x1, .f32⟩
  | 22 => ⟨S2x2x1025x1024x1, .f32⟩
  | 23 => ⟨S2x2x1025x1024x1, .f32⟩
  | 24 => ⟨S2x2x1025x1024x1, .f32⟩
  | 25 => ⟨S2x2x1025x1024x1, .f32⟩
  | 26 => ⟨S2x2x1025x1024x1, .f32⟩
  | 27 => ⟨S2x2x1025x1024x1, .f32⟩
  | 28 => ⟨S2x2x1025x1024x1, .f32⟩
  | 29 => ⟨S2x2x1025x1024x1, .f32⟩
  | 30 => ⟨S2x2x1025x1024x1, .f32⟩
  | 31 => ⟨S2x2x1025x1024x1, .f32⟩
  | 32 => ⟨S2x2x1025x1024x1, .f32⟩
  | 33 => ⟨S2x2x1025x1024x1, .f32⟩
  | 34 => ⟨S2x2x1025x1024x1, .f32⟩
  | 35 => ⟨S2x2x1025x1024x1, .f32⟩
  | 36 => ⟨S2x2x1025x1024x16, .f32⟩
  | 37 => ⟨S2x2x1025x1024x15, .f32⟩
  | 38 => ⟨S2x2x1025x1024x31, .f32⟩
  | 39 => ⟨S_, .f32⟩
  | 40 => ⟨S2x2x1025x1024x31, .i1⟩
  | 41 => ⟨S_, .i1⟩
  | 42 => ⟨S2x2x1025x1024, .i1⟩
  | 43 => ⟨S2x2x1025x1024x1, .i1⟩
  | 44 => ⟨S_, .f32⟩
  | 45 => ⟨S_, .f32⟩
  | 46 => ⟨S2x2x1025x1024x31, .i1⟩
  | 47 => ⟨S2x2x1025x1024x31, .f32⟩
  | 48 => ⟨S2x2x1025x1024x31, .f32⟩
  | 49 => ⟨S2x2x1025x1024x31, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .i32⟩
  | 70 => ⟨S_, .i32⟩
  | 71 => ⟨S1, .i32⟩
  | 72 => ⟨S2x2x1025x1024, .f32⟩
  | 73 => ⟨S1, .i32⟩
  | 74 => ⟨S2x2x1025x1024, .f32⟩
  | 75 => ⟨S2x2x1025x1024, .f32⟩
  | 76 => ⟨S_, .f32⟩
  | 77 => ⟨S2x2x1025x1024, .f32⟩
  | 78 => ⟨S2x2x1025x1024, .f32⟩
  | 79 => ⟨S_, .i32⟩
  | 80 => ⟨S_, .f32⟩
  | 81 => ⟨S2x2x1055x1024, .f32⟩
  | 82 => ⟨S2x2x1055x1024x1, .f32⟩
  | 83 => ⟨S2x2x1025x1024x1, .f32⟩
  | 84 => ⟨S2x2x1025x1024x1, .f32⟩
  | 85 => ⟨S2x2x1025x1024x1, .f32⟩
  | 86 => ⟨S2x2x1025x1024x1, .f32⟩
  | 87 => ⟨S2x2x1025x1024x1, .f32⟩
  | 88 => ⟨S2x2x1025x1024x1, .f32⟩
  | 89 => ⟨S2x2x1025x1024x1, .f32⟩
  | 90 => ⟨S2x2x1025x1024x1, .f32⟩
  | 91 => ⟨S2x2x1025x1024x1, .f32⟩
  | 92 => ⟨S2x2x1025x1024x1, .f32⟩
  | 93 => ⟨S2x2x1025x1024x1, .f32⟩
  | 94 => ⟨S2x2x1025x1024x1, .f32⟩
  | 95 => ⟨S2x2x1025x1024x1, .f32⟩
  | 96 => ⟨S2x2x1025x1024x1, .f32⟩
  | 97 => ⟨S2x2x1025x1024x1, .f32⟩
  | 98 => ⟨S2x2x1025x1024x1, .f32⟩
  | 99 => ⟨S2x2x1025x1024x1, .f32⟩
  | 100 => ⟨S2x2x1025x1024x1, .f32⟩
  | 101 => ⟨S2x2x1025x1024x1, .f32⟩
  | 102 => ⟨S2x2x1025x1024x1, .f32⟩
  | 103 => ⟨S2x2x1025x1024x1, .f32⟩
  | 104 => ⟨S2x2x1025x1024x1, .f32⟩
  | 105 => ⟨S2x2x1025x1024x1, .f32⟩
  | 106 => ⟨S2x2x1025x1024x1, .f32⟩
  | 107 => ⟨S2x2x1025x1024x1, .f32⟩
  | 108 => ⟨S2x2x1025x1024x1, .f32⟩
  | 109 => ⟨S2x2x1025x1024x1, .f32⟩
  | 110 => ⟨S2x2x1025x1024x1, .f32⟩
  | 111 => ⟨S2x2x1025x1024x1, .f32⟩
  | 112 => ⟨S2x2x1025x1024x1, .f32⟩
  | 113 => ⟨S2x2x1025x1024x1, .f32⟩
  | 114 => ⟨S2x2x1025x1024x16, .f32⟩
  | 115 => ⟨S2x2x1025x1024x15, .f32⟩
  | 116 => ⟨S2x2x1025x1024x31, .f32⟩
  | 117 => ⟨S_, .f32⟩
  | 118 => ⟨S2x2x1025x1024x31, .i1⟩
  | 119 => ⟨S_, .i1⟩
  | 120 => ⟨S2x2x1025x1024, .i1⟩
  | 121 => ⟨S2x2x1025x1024x1, .i1⟩
  | 122 => ⟨S_, .f32⟩
  | 123 => ⟨S_, .f32⟩
  | 124 => ⟨S2x2x1025x1024x31, .i1⟩
  | 125 => ⟨S2x2x1025x1024x31, .f32⟩
  | 126 => ⟨S2x2x1025x1024x31, .f32⟩
  | 127 => ⟨S2x2x1025x1024x31, .f32⟩
  | _ => ⟨S2x2x1025x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .i32⟩
  | 20 => ⟨S_, .i32⟩
  | 21 => ⟨S1, .i32⟩
  | 22 => ⟨S2x2x1025x1024, .f32⟩
  | 23 => ⟨S1, .i32⟩
  | 24 => ⟨S2x2x1025x1024, .f32⟩
  | 25 => ⟨S2x2x1025x1024, .f32⟩
  | 26 => ⟨S_, .f32⟩
  | 27 => ⟨S2x2x1025x1024, .f32⟩
  | 28 => ⟨S2x2x1025x1024, .f32⟩
  | 29 => ⟨S_, .f32⟩
  | 30 => ⟨S2x2x1025x1024, .f32⟩
  | 31 => ⟨S2x2x1025x1024, .f32⟩
  | 32 => ⟨S2x2x1025x1024, .f32⟩
  | 33 => ⟨S_, .f32⟩
  | 34 => ⟨S2x2x1025x1024, .f32⟩
  | 35 => ⟨S2x2x1025x1024, .i1⟩
  | 36 => ⟨S_, .f32⟩
  | 37 => ⟨S2x2x1025x1024, .f32⟩
  | 38 => ⟨S2x2x1025x1024, .f32⟩
  | 39 => ⟨S2x2x1025x1024, .f32⟩
  | 40 => ⟨S_, .f32⟩
  | 41 => ⟨S2x2x1025x1024, .f32⟩
  | 42 => ⟨S2x2x1025x1024, .f32⟩
  | 43 => ⟨S2x2x1025x1024, .f32⟩
  | 44 => ⟨S_, .f32⟩
  | 45 => ⟨S2x2x1025x1024, .f32⟩
  | 46 => ⟨S2x2x1025x1024, .f32⟩
  | 47 => ⟨S2x2x1025x1024, .f32⟩
  | 48 => ⟨S2x2x1025x1024, .f32⟩
  | 49 => ⟨S_, .f32⟩
  | 50 => ⟨S2x2x1025x1024, .f32⟩
  | 51 => ⟨S2x2x1025x1024, .f32⟩
  | 52 => ⟨S2x2x1025x1024, .f32⟩
  | 53 => ⟨S_, .f32⟩
  | 54 => ⟨S2x2x1025x1024, .f32⟩
  | 55 => ⟨S2x2x1025x1024, .i1⟩
  | 56 => ⟨S_, .f32⟩
  | 57 => ⟨S2x2x1025x1024, .f32⟩
  | 58 => ⟨S2x2x1025x1024, .f32⟩
  | 59 => ⟨S2x2x1025x1024, .f32⟩
  | 60 => ⟨S_, .f32⟩
  | 61 => ⟨S2x2x1025x1024, .f32⟩
  | 62 => ⟨S2x2x1025x1024, .f32⟩
  | 63 => ⟨S2x2x1025x1024, .f32⟩
  | 64 => ⟨S_, .f32⟩
  | 65 => ⟨S2x2x1025x1024, .f32⟩
  | 66 => ⟨S2x2x1025x1024, .f32⟩
  | 67 => ⟨S2x2x1025x1024, .f32⟩
  | 68 => ⟨S2x2x1025x1024, .f32⟩
  | 69 => ⟨S2x2x1025x1024, .f32⟩
  | 70 => ⟨S2x2x1025x1024, .f32⟩
  | _ => ⟨S2x2x1025x1024, .f32⟩

abbrev hbmTy (i : Nat) : BufTy := match i / 128 with
  | 0 => hbmTy0_0 i
  | 1 => hbmTy0_1 i
  | _ => ⟨S2x2x1025x1024, .f32⟩

abbrev bufTy : (tb : Table) → Fin (tcTables nBuf tb) → BufTy
  | .hbm, ⟨i, _⟩ => hbmTy i
  | _, _ => ⟨S2x2x1025x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_call1_cst : Ref sig .tc := ⟨.hbm, 39, rfl⟩
abbrev main_call1_call0_v0 : Ref sig .tc := ⟨.hbm, 40, rfl⟩
abbrev main_call1_call0_c : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_cst : Ref sig .tc := ⟨.hbm, 44, rfl⟩
abbrev main_call1_call0_call0_v0 : Ref sig .tc := ⟨.hbm, 45, rfl⟩
abbrev main_call1_call0_call0_v1 : Ref sig .tc := ⟨.hbm, 46, rfl⟩
abbrev main_call1_call0_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_cst_0 : Ref sig .tc := ⟨.hbm, 50, rfl⟩
abbrev main_call1_call0_cst_1 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_v8 : Ref sig .tc := ⟨.hbm, 55, rfl⟩
abbrev main_call1_call0_v9 : Ref sig .tc := ⟨.hbm, 56, rfl⟩
abbrev main_call1_call0_cst_2 : Ref sig .tc := ⟨.hbm, 57, rfl⟩
abbrev main_call1_call0_v10 : Ref sig .tc := ⟨.hbm, 58, rfl⟩
abbrev main_call1_call0_cst_3 : Ref sig .tc := ⟨.hbm, 59, rfl⟩
abbrev main_call1_call0_cst_4 : Ref sig .tc := ⟨.hbm, 60, rfl⟩
abbrev main_call1_call0_v11 : Ref sig .tc := ⟨.hbm, 61, rfl⟩
abbrev main_call1_call0_cst_5 : Ref sig .tc := ⟨.hbm, 62, rfl⟩
abbrev main_call1_call0_v12 : Ref sig .tc := ⟨.hbm, 63, rfl⟩
abbrev main_call1_call0_cst_6 : Ref sig .tc := ⟨.hbm, 64, rfl⟩
abbrev main_call1_call0_cst_7 : Ref sig .tc := ⟨.hbm, 65, rfl⟩
abbrev main_call1_call0_v13 : Ref sig .tc := ⟨.hbm, 66, rfl⟩
abbrev main_call1_call0_cst_8 : Ref sig .tc := ⟨.hbm, 67, rfl⟩
abbrev main_call1_call0_v14 : Ref sig .tc := ⟨.hbm, 68, rfl⟩
abbrev main_call1_call0_v15 : Ref sig .tc := ⟨.hbm, 69, rfl⟩
abbrev main_call1_call0_v16 : Ref sig .tc := ⟨.hbm, 70, rfl⟩
abbrev main_call1_call0_v17 : Ref sig .tc := ⟨.hbm, 71, rfl⟩
abbrev main_call1_call0_v18 : Ref sig .tc := ⟨.hbm, 72, rfl⟩
abbrev main_call1_call0_v19 : Ref sig .tc := ⟨.hbm, 73, rfl⟩
abbrev main_call1_call0_v20 : Ref sig .tc := ⟨.hbm, 74, rfl⟩
abbrev main_call1_call0_v21 : Ref sig .tc := ⟨.hbm, 75, rfl⟩
abbrev main_call1_call0_cst_9 : Ref sig .tc := ⟨.hbm, 76, rfl⟩
abbrev main_call1_call0_v22 : Ref sig .tc := ⟨.hbm, 77, rfl⟩
abbrev main_v36 : Ref sig .tc := ⟨.hbm, 78, rfl⟩
abbrev main_c_0 : Ref sig .tc := ⟨.hbm, 79, rfl⟩
abbrev main_call2_v0 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_call3_cst : Ref sig .tc := ⟨.hbm, 117, rfl⟩
abbrev main_call3_call0_v0 : Ref sig .tc := ⟨.hbm, 118, rfl⟩
abbrev main_call3_call0_c : Ref sig .tc := ⟨.hbm, 119, rfl⟩
abbrev main_call3_call0_v1 : Ref sig .tc := ⟨.hbm, 120, rfl⟩
abbrev main_call3_call0_v2 : Ref sig .tc := ⟨.hbm, 121, rfl⟩
abbrev main_call3_call0_cst : Ref sig .tc := ⟨.hbm, 122, rfl⟩
abbrev main_call3_call0_call0_v0 : Ref sig .tc := ⟨.hbm, 123, rfl⟩
abbrev main_call3_call0_call0_v1 : Ref sig .tc := ⟨.hbm, 124, rfl⟩
abbrev main_call3_call0_call0_v2 : Ref sig .tc := ⟨.hbm, 125, rfl⟩
abbrev main_call3_call0_v3 : Ref sig .tc := ⟨.hbm, 126, rfl⟩
abbrev main_call3_call0_v4 : Ref sig .tc := ⟨.hbm, 127, rfl⟩
abbrev main_call3_call0_cst_0 : Ref sig .tc := ⟨.hbm, 128, rfl⟩
abbrev main_call3_call0_cst_1 : Ref sig .tc := ⟨.hbm, 129, rfl⟩
abbrev main_call3_call0_v5 : Ref sig .tc := ⟨.hbm, 130, rfl⟩
abbrev main_call3_call0_v6 : Ref sig .tc := ⟨.hbm, 131, rfl⟩
abbrev main_call3_call0_v7 : Ref sig .tc := ⟨.hbm, 132, rfl⟩
abbrev main_call3_call0_v8 : Ref sig .tc := ⟨.hbm, 133, rfl⟩
abbrev main_call3_call0_v9 : Ref sig .tc := ⟨.hbm, 134, rfl⟩
abbrev main_call3_call0_cst_2 : Ref sig .tc := ⟨.hbm, 135, rfl⟩
abbrev main_call3_call0_v10 : Ref sig .tc := ⟨.hbm, 136, rfl⟩
abbrev main_call3_call0_cst_3 : Ref sig .tc := ⟨.hbm, 137, rfl⟩
abbrev main_call3_call0_cst_4 : Ref sig .tc := ⟨.hbm, 138, rfl⟩
abbrev main_call3_call0_v11 : Ref sig .tc := ⟨.hbm, 139, rfl⟩
abbrev main_call3_call0_cst_5 : Ref sig .tc := ⟨.hbm, 140, rfl⟩
abbrev main_call3_call0_v12 : Ref sig .tc := ⟨.hbm, 141, rfl⟩
abbrev main_call3_call0_cst_6 : Ref sig .tc := ⟨.hbm, 142, rfl⟩
abbrev main_call3_call0_cst_7 : Ref sig .tc := ⟨.hbm, 143, rfl⟩
abbrev main_call3_call0_v13 : Ref sig .tc := ⟨.hbm, 144, rfl⟩
abbrev main_call3_call0_cst_8 : Ref sig .tc := ⟨.hbm, 145, rfl⟩
abbrev main_call3_call0_v14 : Ref sig .tc := ⟨.hbm, 146, rfl⟩
abbrev main_call3_call0_v15 : Ref sig .tc := ⟨.hbm, 147, rfl⟩
abbrev main_call3_call0_v16 : Ref sig .tc := ⟨.hbm, 148, rfl⟩
abbrev main_call3_call0_v17 : Ref sig .tc := ⟨.hbm, 149, rfl⟩
abbrev main_call3_call0_v18 : Ref sig .tc := ⟨.hbm, 150, rfl⟩
abbrev main_call3_call0_v19 : Ref sig .tc := ⟨.hbm, 151, rfl⟩
abbrev main_call3_call0_v20 : Ref sig .tc := ⟨.hbm, 152, rfl⟩
abbrev main_call3_call0_v21 : Ref sig .tc := ⟨.hbm, 153, rfl⟩
abbrev main_call3_call0_cst_9 : Ref sig .tc := ⟨.hbm, 154, rfl⟩
abbrev main_call3_call0_v22 : Ref sig .tc := ⟨.hbm, 155, rfl⟩
abbrev main_v73 : Ref sig .tc := ⟨.hbm, 156, rfl⟩
abbrev main_cst : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_cst_1 : Ref sig .tc := ⟨.hbm, 161, rfl⟩
abbrev main_v77 : Ref sig .tc := ⟨.hbm, 162, rfl⟩
abbrev main_v78 : Ref sig .tc := ⟨.hbm, 163, rfl⟩
abbrev main_cst_2 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_cst_3 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_cst_4 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_cst_5 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_cst_6 : Ref sig .tc := ⟨.hbm, 181, rfl⟩
abbrev main_v92 : Ref sig .tc := ⟨.hbm, 182, rfl⟩
abbrev main_v93 : Ref sig .tc := ⟨.hbm, 183, rfl⟩
abbrev main_cst_7 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_cst_8 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_cst_9 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩

abbrev nD : Nat := 1
abbrev τ : Topo := Topo.v7x

variable {F : FTy → Type} [FloatOps F]
-- ==== Proof.Net.lean ====
/-
  The comparator network of the kernel: Batcher's odd-even merge sort of 32 wires with the last wire left out.

  `wires mn mx v ps` runs the comparators `ps` over the values `v`; `mid31 mn mx v` is the value on wire 15 after the
  network `pairs31`. It is stated for any minimum `mn` and maximum `mx`, so that one text describes the network over
  vectors, over the entries of a vector and over the extended reals.
-/
module

public import Idealize.ShloMosaic.Lib.SortNet.OddEvenSort

@[expose] public section

namespace Cert.Med

/-- The comparator `p` on the values `v`: the lesser of the two to the wire `p.1`, the greater to the wire `p.2`. -/
def exch {α : Type*} (mn mx : α → α → α) (p : Nat × Nat) (v : Nat → α) : Nat → α := fun k =>
  bif Nat.beq k p.1 then mn (v p.1) (v p.2) else bif Nat.beq k p.2 then mx (v p.1) (v p.2) else v k

/-- The values after the comparators `ps`, applied in order. -/
def wires {α : Type*} (mn mx : α → α → α) (v : Nat → α) : List (Nat × Nat) → Nat → α
  | [] => v
  | p :: ps => wires mn mx (exch mn mx p v) ps

/-- The odd-even merge sort's comparators on 32 wires without those that touch wire 31. -/
def pairs31 : List (Nat × Nat) :=
  [(0, 1), (2, 3), (4, 5), (6, 7), (8, 9), (10, 11), (12, 13), (14, 15), (16, 17), (18, 19), (20, 21), (22, 23), (24,
    25), (26, 27), (28, 29), (0, 2), (1, 3), (4, 6), (5, 7), (8, 10), (9, 11), (12, 14), (13, 15), (16, 18), (17, 19),
    (20, 22), (21, 23), (24, 26), (25, 27), (28, 30), (1, 2), (5, 6), (9, 10), (13, 14), (17, 18), (21, 22), (25, 26),
    (29, 30), (0, 4), (1, 5), (2, 6), (3, 7), (8, 12), (9, 13), (10, 14), (11, 15), (16, 20), (17, 21), (18, 22), (19,
    23), (24, 28), (25, 29), (26, 30), (2, 4), (3, 5), (10, 12), (11, 13), (18, 20), (19, 21), (26, 28), (27, 29), (1, 2),
    (3, 4), (5, 6), (9, 10), (11, 12), (13, 14), (17, 18), (19, 20), (21, 22), (25, 26), (27, 28), (29, 30), (0, 8), (1,
    9), (2, 10), (3, 11), (4, 12), (5, 13), (6, 14), (7, 15), (16, 24), (17, 25), (18, 26), (19, 27), (20, 28), (21, 29),
    (22, 30), (4, 8), (5, 9), (6, 10), (7, 11), (20, 24), (21, 25), (22, 26), (23, 27), (2, 4), (3, 5), (6, 8), (7, 9),
    (10, 12), (11, 13), (18, 20), (19, 21), (22, 24), (23, 25), (26, 28), (27, 29), (1, 2), (3, 4), (5, 6), (7, 8), (9,
    10), (11, 12), (13, 14), (17, 18), (19, 20), (21, 22), (23, 24), (25, 26), (27, 28), (29, 30), (0, 16), (1, 17), (2,
    18), (3, 19), (4, 20), (5, 21), (6, 22), (7, 23), (8, 24), (9, 25), (10, 26), (11, 27), (12, 28), (13, 29), (14, 30),
    (8, 16), (9, 17), (10, 18), (11, 19), (12, 20), (13, 21), (14, 22), (15, 23), (4, 8), (5, 9), (6, 10), (7, 11), (12,
    16), (13, 17), (14, 18), (15, 19), (20, 24), (21, 25), (22, 26), (23, 27), (2, 4), (3, 5), (6, 8), (7, 9), (10, 12),
    (11, 13), (14, 16), (15, 17), (18, 20), (19, 21), (22, 24), (23, 25), (26, 28), (27, 29), (1, 2), (3, 4), (5, 6), (7,
    8), (9, 10), (11, 12), (13, 14), (15, 16), (17, 18), (19, 20), (21, 22), (23, 24), (25, 26), (27, 28), (29, 30)]

/-- The value on wire 15 after the network. -/
def mid31 {α : Type*} (mn mx : α → α → α) (v : Nat → α) : α := wires mn mx v pairs31 15

open Idealize.ShloMosaic.SortNet in
/-- `pairs31` is the odd-even merge sort's list with the pairs that touch wire 31 left out. -/
theorem pairs31_eq : pairs31 = (oddEvenPairs 5).filter fun p => decide (p.2 < 31) := by decide +kernel

end Cert.Med
-- ==== Proof.Blocks.lean ====
/-
  What the body stores, as one function of the row block.

  The body is unrolled over nine blocks of 128 rows and over the comparators of two networks. `blockH` and `blockP` say
  once what block `b` stores in the two output windows, as functions of the loaded values; `piecesH_eq` and `piecesP_eq`
  say that the two lists of stores the run makes are these functions at the nine blocks.
-/
module

public import proofs.«01_k».proof.Proof.Net
public import proofs.«01_k».proof.Proof.Gen.KernelIdeal.Frame

@[expose] public section

set_option maxRecDepth 16384

noncomputable section

namespace Cert.Med

open Cert.KernelIdeal Cert.KernelIdeal.Gen Idealize.ShloMosaic Idealize.ShloMosaic.TcCoe Idealize.ShloMosaic.Tactic
open Idealize.SL.Sem

variable {F : FTy → Type} [FloatOps F]

theorem slicesW (b : Fin 9) : S1152x256.Slices ![128 * b.val, 0] S128x256 := by
  revert b; decide

theorem slicesWCol (k : Nat) : S128x256.Slices ![0, k % 31] S128x128 := by
  exact (by decide : ∀ j : Fin 31, S128x256.Slices ![0, j.val] S128x128) ⟨k % 31, Nat.mod_lt _ (by decide)⟩

theorem slicesH (b : Fin 9) : S1184x128.Slices ![128 * b.val, 0] S160x128 := by
  revert b; decide

theorem slicesHRow (k : Nat) : S160x128.Slices ![k % 31, 0] S128x128 := by
  exact (by decide : ∀ j : Fin 31, S160x128.Slices ![j.val, 0] S128x128) ⟨k % 31, Nat.mod_lt _ (by decide)⟩

theorem rectB (b : Fin 9) : ∀ a, (![0, 128 * b.val, 0] : Fin 3 → Nat) a + S1x128x128.size a ≤ S1x1152x128.size a := by
  revert b; decide

/-- The rows of block `b` in an output window (and in the window of the samples). -/
abbrev rowsB (b : Fin 9) : Rect S1x1152x128 := Rect.unit (s := S1x1152x128) ![0, 128 * b.val, 0] S1x128x128.size (rectB b)

/-- The horizontal median of block `b`: the network over the 31 column shifts of the block's rows. -/
def medW (w : Vec F S1x1152x256 .f32) (b : Fin 9) : FVec F S128x128 .bf16 := fun i =>
  mid31 FloatOps.minimumf FloatOps.maximumf fun k =>
    FloatOps.truncf .bf16 bitsLt_bf16_f32 (extractStridedSlice S128x128 ![0, k % 31]
      (extractStridedSlice S128x256 ![128 * b.val, 0] (shapeCast S1152x256 w shapeCasts_S1x1152x256_S1152x256) (slicesW b))
      (slicesWCol k) i)

/-- The vertical median of block `b`: the network over the 31 row shifts. -/
def medH (w : Vec F S1x1184x128 .f32) (b : Fin 9) : FVec F S128x128 .bf16 := fun i =>
  mid31 FloatOps.minimumf FloatOps.maximumf fun k =>
    FloatOps.truncf .bf16 bitsLt_bf16_f32 (extractStridedSlice S128x128 ![k % 31, 0]
      (extractStridedSlice S160x128 ![128 * b.val, 0] (shapeCast S1184x128 w shapeCasts_S1x1184x128_S1184x128) (slicesH b))
      (slicesHRow k) i)

/-- The reciprocal of the sum of the two squares. -/
def invOf (h p : FVec F S128x128 .f32) : FVec F S128x128 .f32 :=
  divf (broadcast S128x128 (Scalar.ofBits .f32 0x3F800000#32)) (addf (mulf h h) (mulf p p))

/-- What block `b` stores in the first output window. -/
def blockH (w : Vec F S1x1152x256 .f32) (w' : Vec F S1x1184x128 .f32) (s : Vec F S1x128x128 .f32) (b : Fin 9) :
    FVec F S1x128x128 .f32 :=
  shapeCast S1x128x128 (mulf (shapeCast S128x128 s shapeCasts_S1x128x128_S128x128)
    (mulf (mulf (extf .f32 (medW w b) bitsLt_bf16_f32) (extf .f32 (medW w b) bitsLt_bf16_f32))
      (invOf (extf .f32 (medW w b) bitsLt_bf16_f32) (extf .f32 (medH w' b) bitsLt_bf16_f32)))) shapeCasts_S128x128_S1x128x128

/-- What block `b` stores in the second output window. -/
def blockP (w : Vec F S1x1152x256 .f32) (w' : Vec F S1x1184x128 .f32) (s : Vec F S1x128x128 .f32) (b : Fin 9) :
    FVec F S1x128x128 .f32 :=
  shapeCast S1x128x128 (mulf (shapeCast S128x128 s shapeCasts_S1x128x128_S128x128)
    (mulf (mulf (extf .f32 (medH w' b) bitsLt_bf16_f32) (extf .f32 (medH w' b) bitsLt_bf16_f32))
      (invOf (extf .f32 (medW w b) bitsLt_bf16_f32) (extf .f32 (medH w' b) bitsLt_bf16_f32)))) shapeCasts_S128x128_S1x128x128

/-- The nine blocks, the last one stored first in the list. -/
def blocks : List (Fin 9) :=
  [⟨8, by decide⟩, ⟨7, by decide⟩, ⟨6, by decide⟩, ⟨5, by decide⟩, ⟨4, by decide⟩, ⟨3, by decide⟩, ⟨2, by decide⟩,
    ⟨1, by decide⟩, ⟨0, by decide⟩]

section
variable (c : Dev nD) (i : grid0.Coords) (arg2 : Memref sig .tc .vmem S1x1152x1152 .f32) (harg2 : arg2.IsWhole)
  (arg3 : Memref sig .tc .vmem S1x1184x1024 .f32) (harg3 : arg3.IsWhole) (arg4 : Memref sig .tc .vmem S1x1152x128 .f32)
  (harg4 : arg4.IsWhole) (arg5 : Memref sig .tc .vmem S1x1152x128 .f32) (harg5 : arg5.IsWhole)
  (arg6 : Memref sig .tc .vmem S1x1152x128 .f32) (harg6 : arg6.IsWhole)
  (x0 : Vec F S1x1152x1152 .f32) (x1 : Vec F S1x1184x1024 .f32) (x2 : Vec F S1x1152x128 .f32)

/-- The columns the body loads of the first window. -/
def ldW : Vec F S1x1152x256 .f32 := View.readAt (Elt F) arg2.view
  (Rect.unit (s := S1x1152x1152) (k0_off1 i) S1x1152x256.size (k0_off1_inb i)).toLoadRect (harg2.unread x0)

/-- The columns the body loads of the second window. -/
def ldH : Vec F S1x1184x128 .f32 := View.readAt (Elt F) arg3.view
  (Rect.unit (s := S1x1184x1024) (k0_off2 i) S1x1184x128.size (k0_off2_inb i)).toLoadRect (harg3.unread x1)

/-- The rows of block `b` the body loads of the samples' window. -/
def ldS (b : Fin 9) : Vec F S1x128x128 .f32 := View.readAt (Elt F) arg4.view (rowsB b).toLoadRect (harg4.unread x2)

/-- The stores into the first output window are `blockH` at the nine blocks. -/
theorem piecesH_eq : (kernelRun0_A c i arg2 harg2 arg3 harg3 arg4 harg4 arg5 harg5 arg6 harg6 x0 x1 x2).1 =
    blocks.map fun b => ⟨rowsB b, blockH (ldW i arg2 harg2 x0) (ldH i arg3 harg3 x1) (ldS arg4 harg4 x2 b) b⟩ := by
  sl_kernel_rfl

/-- The stores into the second output window are `blockP` at the nine blocks. -/
theorem piecesP_eq : (kernelRun0_A c i arg2 harg2 arg3 harg3 arg4 harg4 arg5 harg5 arg6 harg6 x0 x1 x2).2.1 =
    blocks.map fun b => ⟨rowsB b, blockP (ldW i arg2 harg2 x0) (ldH i arg3 harg3 x1) (ldS arg4 harg4 x2 b) b⟩ := by
  sl_kernel_rfl

end

end Cert.Med

end
-- ==== Proof.Body.lean ====
/-
  What the body leaves in its two output blocks, entry by entry, at the extended reals.

  Entry `(0, r, l)` of an output block is the sample there times a quotient of squares of the two medians; the medians
  are the network's values on 31 neighbours in a row of the first window and in a column of the second.
-/
module

public import proofs.«01_k».proof.Proof.Blocks
public import Idealize.ShloMosaic.Lib.Pipeline.ValueKit

@[expose] public section

set_option maxRecDepth 16384

noncomputable section

namespace Cert.Med

open Cert.KernelIdeal Cert.KernelIdeal.Gen Idealize.ShloMosaic Idealize.ShloMosaic.TcCoe Idealize.ShloMosaic.Tactic
open Idealize.SL.Sem

/-- The middle wire of the network over the extended reals. -/
def midE (v : Nat → EReal) : EReal := mid31 min max v

/-- One output entry: the sample `s` times the share of the square of `a` in the squares of `a` and `b`, as the kernel
    writes it, with the two squares added in the order `q`. -/
def share (s a q : EReal) : EReal := s * (a * a * Ideal.div 1 q)

/-- The row median at an entry of the block of grid column `i 1`. -/
def rowMid (i : grid0.Coords) (x : Vec Ideal S1x1152x1152 .f32) (y : S1x1152x128.Idx) : EReal :=
  midE fun k => x (ix3 (0 : Fin 1) (⟨(y 1).val, (y 1).isLt⟩ : Fin 1152) (⟨128 * (i 1).val + (k % 31 + (y 2).val), by
    have h1 : (i 1).val < 8 := (i 1).isLt
    have h2 : (y 2).val < 128 := (y 2).isLt
    have h3 : k % 31 < 31 := Nat.mod_lt _ (by decide)
    omega⟩ : Fin 1152))

/-- The column median at an entry of the block of grid column `i 1`. -/
def colMid (i : grid0.Coords) (x : Vec Ideal S1x1184x1024 .f32) (y : S1x1152x128.Idx) : EReal :=
  midE fun k => x (ix3 (0 : Fin 1) (⟨k % 31 + (y 1).val, by
    have h2 : (y 1).val < 1152 := (y 1).isLt
    have h3 : k % 31 < 31 := Nat.mod_lt _ (by decide)
    omega⟩ : Fin 1184) (⟨128 * (i 1).val + (y 2).val, by
    have h1 : (i 1).val < 8 := (i 1).isLt
    have h2 : (y 2).val < 128 := (y 2).isLt
    omega⟩ : Fin 1024))

/-- The body's first output entry. -/
def bodyH (i : grid0.Coords) (x0 : Vec Ideal S1x1152x1152 .f32) (x1 : Vec Ideal S1x1184x1024 .f32)
    (x2 : Vec Ideal S1x1152x128 .f32) (y : S1x1152x128.Idx) : EReal :=
  share (x2 y) (rowMid i x0 y) (rowMid i x0 y * rowMid i x0 y + colMid i x1 y * colMid i x1 y)

/-- The body's second output entry. -/
def bodyP (i : grid0.Coords) (x0 : Vec Ideal S1x1152x1152 .f32) (x1 : Vec Ideal S1x1184x1024 .f32)
    (x2 : Vec Ideal S1x1152x128 .f32) (y : S1x1152x128.Idx) : EReal :=
  share (x2 y) (colMid i x1 y) (rowMid i x0 y * rowMid i x0 y + colMid i x1 y * colMid i x1 y)

theorem off1_eq (i : grid0.Coords) : k0_off1 i = ![0, 0, 128 * (i 1).val] := by
  unfold k0_off1
  decide +kernel +revert

theorem off2_eq (i : grid0.Coords) : k0_off2 i = ![0, 0, 128 * (i 1).val] := by
  unfold k0_off2
  decide +kernel +revert

section
variable (c : Dev nD) (i : grid0.Coords) (arg2 : Memref sig .tc .vmem S1x1152x1152 .f32) (harg2 : arg2.IsWhole)
  (arg3 : Memref sig .tc .vmem S1x1184x1024 .f32) (harg3 : arg3.IsWhole) (arg4 : Memref sig .tc .vmem S1x1152x128 .f32)
  (harg4 : arg4.IsWhole) (arg5 : Memref sig .tc .vmem S1x1152x128 .f32) (harg5 : arg5.IsWhole)
  (arg6 : Memref sig .tc .vmem S1x1152x128 .f32) (harg6 : arg6.IsWhole)
  (x0 : Vec Ideal S1x1152x1152 .f32) (x1 : Vec Ideal S1x1184x1024 .f32) (x2 : Vec Ideal S1x1152x128 .f32)

/-- A place of the first window's loaded columns. -/
theorem ldW_apply (x : S1x1152x256.Idx) (y : S1x1152x1152.Idx) (h1 : (y 1).val = (x 1).val)
    (h2 : (y 2).val = 128 * (i 1).val + (x 2).val) : ldW i arg2 harg2 x0 x = x0 y := by
  unfold ldW
  simp only [View.readAt_eq_ld, Memref.IsWhole.read_unread]
  pointwise
  simp only [off1_eq]
  blk_ext

/-- A place of the second window's loaded columns. -/
theorem ldH_apply (x : S1x1184x128.Idx) (y : S1x1184x1024.Idx) (h1 : (y 1).val = (x 1).val)
    (h2 : (y 2).val = 128 * (i 1).val + (x 2).val) : ldH i arg3 harg3 x1 x = x1 y := by
  unfold ldH
  simp only [View.readAt_eq_ld, Memref.IsWhole.read_unread]
  pointwise
  simp only [off2_eq]
  blk_ext

/-- A place of the samples' loaded rows. -/
theorem ldS_apply (b : Fin 9) (x : S1x128x128.Idx) : ldS arg4 harg4 x2 b x = x2 ((rowsB b).emb x) := by
  unfold ldS
  simp only [View.readAt_eq_ld, Memref.IsWhole.read_unread]
  rfl

/-- Where block `b`'s entry `x` stands in the window. -/
theorem rowsB_row (b : Fin 9) (x : S1x128x128.Idx) : ((rowsB b).emb x 1 : Nat) = 128 * b.val + (x 1).val := by
  show 128 * b.val + 1 * (x 1).val = _
  omega

theorem rowsB_col (b : Fin 9) (x : S1x128x128.Idx) : ((rowsB b).emb x 2 : Nat) = (x 2).val := by
  show 0 + 1 * (x 2).val = _
  omega

/-- The first median of block `b`, read at a place of the block. -/
theorem medW_apply (b : Fin 9) (x : S1x128x128.Idx) :
    medW (ldW i arg2 harg2 x0) b (ix2 (x 1) (x 2)) = rowMid i x0 ((rowsB b).emb x) := by
  unfold medW rowMid midE
  pointwise
  congr 1
  funext k
  have e1 := rowsB_row b x
  have e2 := rowsB_col b x
  apply ldW_apply
  · exact e1
  · show 128 * (i 1).val + (k % 31 + _) = 128 * (i 1).val + (k % 31 + (x 2).val)
    rw [e2]

/-- The second median of block `b`, read at a place of the block. -/
theorem medH_apply (b : Fin 9) (x : S1x128x128.Idx) :
    medH (ldH i arg3 harg3 x1) b (ix2 (x 1) (x 2)) = colMid i x1 ((rowsB b).emb x) := by
  unfold medH colMid midE
  pointwise
  congr 1
  funext k
  have e1 := rowsB_row b x
  have e2 := rowsB_col b x
  apply ldH_apply
  · show k % 31 + _ = 128 * b.val + (k % 31 + (x 1).val)
    rw [e1]; omega
  · show 128 * (i 1).val + _ = 128 * (i 1).val + (x 2).val
    rw [e2]

/-- What the body leaves in the first output window. -/
theorem out3_apply (y : S1x1152x128.Idx) :
    out0_A_3 c i arg2 harg2 arg3 harg3 arg4 harg4 arg5 harg5 arg6 harg6 x0 x1 x2 y = bodyH i x0 x1 x2 y := by
  unfold out0_A_3
  have hc := cover0_A_3 c i arg2 harg2 arg3 harg3 arg4 harg4 arg5 harg5 arg6 harg6 x0 x1 x2 y
  rw [piecesH_eq] at hc ⊢
  refine View.read_writes_apply_of_pieces _ _ (bodyH i x0 x1 x2) _ ?_ y hc
  intro p hp x
  obtain ⟨b, -, rfl⟩ := List.mem_map.mp hp
  show blockH _ _ _ b x = _
  unfold blockH invOf bodyH share
  pointwise
  rw [medW_apply, medH_apply, ldS_apply]

/-- What the body leaves in the second output window. -/
theorem out4_apply (y : S1x1152x128.Idx) :
    out0_A_4 c i arg2 harg2 arg3 harg3 arg4 harg4 arg5 harg5 arg6 harg6 x0 x1 x2 y = bodyP i x0 x1 x2 y := by
  unfold out0_A_4
  have hc := cover0_A_4 c i arg2 harg2 arg3 harg3 arg4 harg4 arg5 harg5 arg6 harg6 x0 x1 x2 y
  rw [piecesP_eq] at hc ⊢
  refine View.read_writes_apply_of_pieces _ _ (bodyP i x0 x1 x2) _ ?_ y hc
  intro p hp x
  obtain ⟨b, -, rfl⟩ := List.mem_map.mp hp
  show blockP _ _ _ b x = _
  unfold blockP invOf bodyP share
  pointwise
  rw [medW_apply, medH_apply, ldS_apply]

end

end Cert.Med

end
-- ==== Proof.Median.lean ====
/-
  The network's wire 15 is the median: the sixteenth of the thirty-one values in ascending order.
-/
module

public import proofs.«01_k».proof.Proof.Net
public import Mathlib.Data.EReal.Basic
public import Mathlib.Data.List.Sort

@[expose] public section

namespace Cert.Med

open Idealize.ShloMosaic.SortNet

/-- The comparator of two wires of which the second is 31 and holds the greatest value changes no wire below 31; any
    other comparator acts on the values below wire 31 alone. So the network without the pairs that touch wire 31,
    and the whole network with the greatest value on wire 31, agree on the wires below 31. -/
theorem wires_net {α : Type*} [LinearOrder α] [OrderTop α] (ps : List (Nat × Nat))
    (hps : ∀ p ∈ ps, p.1 < p.2 ∧ p.2 < 32) (v : Nat → α) (w : Fin 32 → αᵒᵈ)
    (hv : ∀ k : Fin 32, k.val < 31 → OrderDual.ofDual (w k) = v k.val) (ht : OrderDual.ofDual (w 31) = ⊤)
    (k : Fin 32) (hk : k.val < 31) :
    OrderDual.ofDual (Network.apply (Network.ofPairs 32 ps) w k)
      = wires min max v (ps.filter fun p => decide (p.2 < 31)) k.val := by
  induction ps generalizing v w with
  | nil => exact hv k hk
  | cons p ps ih =>
    obtain ⟨h1, h2⟩ := hps p (List.mem_cons_self ..)
    have hc : p.2 < 32 ∧ p.1 < 32 ∧ p.2 ≠ p.1 := ⟨h2, by omega, by omega⟩
    have hnet : Network.ofPairs 32 (p :: ps)
        = (⟨⟨p.2, hc.1⟩, ⟨p.1, hc.2.1⟩, fun e => hc.2.2 (Fin.val_eq_of_eq e)⟩ : Cmpx 32) :: Network.ofPairs 32 ps := by
      unfold Network.ofPairs
      rw [List.filterMap_cons, dif_pos hc]
    rw [hnet, Network.apply_cons]
    set c : Cmpx 32 := ⟨⟨p.2, hc.1⟩, ⟨p.1, hc.2.1⟩, fun e => hc.2.2 (Fin.val_eq_of_eq e)⟩ with hcdef
    have hrest : ∀ q ∈ ps, q.1 < q.2 ∧ q.2 < 32 := fun q hq => hps q (List.mem_cons_of_mem _ hq)
    have hlo : OrderDual.ofDual (c.apply w ⟨p.2, hc.1⟩)
        = max (OrderDual.ofDual (w ⟨p.2, hc.1⟩)) (OrderDual.ofDual (w ⟨p.1, hc.2.1⟩)) :=
      congrArg OrderDual.ofDual (Cmpx.apply_lo c w)
    have hhi : OrderDual.ofDual (c.apply w ⟨p.1, hc.2.1⟩)
        = min (OrderDual.ofDual (w ⟨p.2, hc.1⟩)) (OrderDual.ofDual (w ⟨p.1, hc.2.1⟩)) :=
      congrArg OrderDual.ofDual (Cmpx.apply_hi c w)
    have hother : ∀ j : Fin 32, j.val ≠ p.1 → j.val ≠ p.2 → c.apply w j = w j := fun j hj1 hj2 =>
      Cmpx.apply_other c w j (fun e => hj2 (Fin.val_eq_of_eq e)) (fun e => hj1 (Fin.val_eq_of_eq e))
    have hw1 := hv ⟨p.1, hc.2.1⟩ (by show p.1 < 31; omega)
    by_cases hp : p.2 < 31
    · have hw2 := hv ⟨p.2, hc.1⟩ hp
      have hb : Nat.beq p.2 p.1 = false := by
        rw [← Bool.not_eq_true, Nat.beq_eq]
        exact hc.2.2
      rw [List.filter_cons, if_pos (by simpa using hp)]
      refine ih hrest (exch min max p v) (c.apply w) (fun j hj => ?_) ?_
      · unfold exch
        by_cases e1 : j.val = p.1
        · obtain rfl : j = ⟨p.1, hc.2.1⟩ := Fin.ext e1
          rw [hhi, hw1, hw2, min_comm]
          simp
        · by_cases e2 : j.val = p.2
          · obtain rfl : j = ⟨p.2, hc.1⟩ := Fin.ext e2
            rw [hlo, hw1, hw2, max_comm]
            simp [hb]
          · rw [hother j e1 e2, hv j hj]
            have hb1 : Nat.beq j.val p.1 = false := by
              rw [← Bool.not_eq_true, Nat.beq_eq]
              exact e1
            have hb2 : Nat.beq j.val p.2 = false := by
              rw [← Bool.not_eq_true, Nat.beq_eq]
              exact e2
            rw [hb1, hb2]
            rfl
      · rw [hother 31 (by show (31 : Nat) ≠ p.1; omega) (by show (31 : Nat) ≠ p.2; omega), ht]
    · have h31 : p.2 = 31 := by omega
      have hw31 : OrderDual.ofDual (w ⟨p.2, hc.1⟩) = ⊤ := by
        rw [← ht]
        congr 2
        exact Fin.ext h31
      rw [List.filter_cons, if_neg (by simpa using hp)]
      refine ih hrest v (c.apply w) (fun j hj => ?_) ?_
      · by_cases e1 : j.val = p.1
        · obtain rfl : j = ⟨p.1, hc.2.1⟩ := Fin.ext e1
          rw [hhi, hw31, top_inf_eq, hw1]
        · rw [hother j e1 (by omega), hv j hj]
      · have : (31 : Fin 32) = ⟨p.2, hc.1⟩ := Fin.ext h31.symm
        rw [this, hlo, hw31, top_sup_eq]

/-- Two ascending arrangements of the same values are equal. -/
theorem ascending_unique {α : Type*} [LinearOrder α] {n : Nat} (f : Fin n → α) (σ τ : Equiv.Perm (Fin n))
    (hσ : Monotone (f ∘ σ)) (hτ : Monotone (f ∘ τ)) : f ∘ σ = f ∘ τ := by
  refine List.ofFn_injective (List.Perm.eq_of_pairwise' (r := (· ≤ ·)) ?_ ?_ ?_)
  · rw [List.pairwise_ofFn]
    exact fun i j hij => hσ (le_of_lt hij)
  · rw [List.pairwise_ofFn]
    exact fun i j hij => hτ (le_of_lt hij)
  · exact (Equiv.Perm.ofFn_comp_perm σ f).trans (Equiv.Perm.ofFn_comp_perm τ f).symm

/-- The pairs of the whole network join a wire with a later one below 32. -/
theorem pairs_lt : ∀ p ∈ oddEvenPairs 5, p.1 < p.2 ∧ p.2 < 32 := by decide +kernel

/-- Wire 15 after the network is the value at place 15 of any ascending arrangement of the thirty-one values. -/
theorem mid31_eq {α : Type*} [LinearOrder α] [OrderTop α] (v : Nat → α) (π : Fin 31 → Fin 31)
    (hπ : Function.Injective π) (hm : Monotone fun k => v (π k).val) : mid31 min max v = v (π 15).val := by
  let f : Fin 32 → α := fun k => if k.val < 31 then v k.val else ⊤
  let w : Fin 32 → αᵒᵈ := fun k => OrderDual.toDual (f k)
  have hnet := wires_net (oddEvenPairs 5) pairs_lt v w (fun k hk => if_pos hk)
    (show f 31 = ⊤ from if_neg (by decide)) 15 (by decide)
  rw [← pairs31_eq] at hnet
  obtain ⟨σ, hσ⟩ := Network.exists_perm (oddEvenNet 5) w
  have hanti : Antitone (Network.apply (oddEvenNet 5) w) := oddEvenNet_antitone 5 w
  have hmono : Monotone (f ∘ σ) := fun a b hab => by
    have := hanti hab
    rw [hσ] at this
    exact this
  let τ : Fin 32 → Fin 32 := fun k => if h : k.val < 31 then ⟨(π ⟨k.val, h⟩).val, by omega⟩ else k
  have hτ : Function.Injective τ := fun a b hab => by
    have hv := Fin.val_eq_of_eq hab
    simp only [τ] at hv
    split at hv <;> split at hv
    · exact Fin.ext (by simpa using Fin.val_eq_of_eq (hπ (Fin.ext hv)))
    · have := (π ⟨a.val, by assumption⟩).isLt
      simp only at hv
      omega
    · have := (π ⟨b.val, by assumption⟩).isLt
      simp only at hv
      omega
    · exact Fin.ext hv
  let τ' : Equiv.Perm (Fin 32) := Equiv.ofBijective τ ⟨hτ, Finite.surjective_of_injective hτ⟩
  have hfτ : ∀ k : Fin 32, f (τ k) = if h : k.val < 31 then v (π ⟨k.val, h⟩).val else ⊤ := fun k => by
    by_cases h : k.val < 31
    · have : (π ⟨k.val, h⟩).val < 31 := (π ⟨k.val, h⟩).isLt
      simp [f, τ, h]
    · simp [f, τ, h]
  have hmono' : Monotone (f ∘ τ') := fun a b hab => by
    show f (τ a) ≤ f (τ b)
    rw [hfτ, hfτ]
    have hab' : a.val ≤ b.val := hab
    by_cases hb : b.val < 31
    · rw [dif_pos hb, dif_pos (by omega)]
      exact hm (show (⟨a.val, _⟩ : Fin 31) ≤ ⟨b.val, _⟩ from hab')
    · rw [dif_neg hb]
      exact le_top
  have key : (f ∘ σ) (15 : Fin 32) = (f ∘ τ') 15 := congrFun (ascending_unique f σ τ' hmono hmono') 15
  have h15 : f (τ 15) = v (π 15).val := (hfτ 15).trans (dif_pos (by decide))
  show wires min max v pairs31 15 = _
  refine hnet.symm.trans ?_
  have : Network.apply (Network.ofPairs 32 (oddEvenPairs 5)) w 15 = w (σ 15) := congrFun hσ 15
  rw [this]
  exact key.trans h15

end Cert.Med
-- ==== Proof.RefMedian.lean ====
/-
  The reference's median, at an entry: the middle of the thirty-one values stacked on the last axis.
-/
module

public import proofs.«01_k».proof.Proof.Gen.ReferenceIdeal.Run
public import proofs.«01_k».proof.Proof.Median
public import Idealize.ShloMosaic.Lib.SortFacts
public import Idealize.ShloMosaic.Lib.Pipeline.ValueKit

@[expose] public section

set_option maxRecDepth 16384

noncomputable section

namespace Cert.Med

open Cert.ReferenceIdeal Cert.ReferenceIdeal.Gen Cert.ReferenceIdeal.Value Idealize.ShloMosaic Idealize.ShloMosaic.TcCoe Idealize.ShloMosaic.Tactic
open Idealize.SL.Sem

/-- The comparator of the reference's sort is the order of the extended reals. -/
theorem before_iff (a b : EReal) : (comparator_f32_d4 (F := Ideal) a b == 1#1) = decide (a < b) := by
  have h : comparator_f32_d4 (F := Ideal) a b = BitVec.ofBool (decide (a < b)) := by
    unfold comparator_f32_d4
    pointwise
    have e : ∀ c d : EReal, (if c ≠ c then d else if c = 0 then 0 else c) = c := fun c d => by
      rw [if_neg (fun h => h rfl)]
      split <;> simp_all
    rw [e, e]
    rfl
  rw [h]
  cases decide (a < b) <;> rfl

/-- One half. -/
theorem lit_half : Ideal.ofBits .f32 0x3F000000#32 = (((1 : ℝ) / 2 : ℝ) : EReal) := by
  simp [Ideal.ofBits, Ideal.ieee]
  rw [← EReal.coe_mul]
  norm_num

/-- Thirty-one. -/
theorem lit_31 : Ideal.ofBits .f32 0x41F80000#32 = ((31 : ℝ) : EReal) := by
  simp [Ideal.ofBits, Ideal.ieee]
  rw [← EReal.coe_mul]
  norm_num

/-- The quantile's position, half of thirty. -/
theorem half_thirty : (((1 : ℝ) / 2 : ℝ) : EReal) * (((31 : ℝ) : EReal) - 1) = ((15 : ℝ) : EReal) := by
  rw [← EReal.coe_one, ← EReal.coe_sub, ← EReal.coe_mul]
  norm_num

/-- The last position, thirty. -/
theorem thirty : ((31 : ℝ) : EReal) - 1 = ((30 : ℝ) : EReal) := by
  rw [← EReal.coe_one, ← EReal.coe_sub]
  norm_num

/-- The position fifteen, kept between nought and thirty, as a 32-bit word. -/
theorem word15 : Ideal.fptosi 32 (min (max ((15 : ℝ) : EReal) 0) ((30 : ℝ) : EReal)) = 15#32 := by
  have h1 : max ((15 : ℝ) : EReal) 0 = ((15 : ℝ) : EReal) := max_eq_left (by exact_mod_cast (by norm_num : (0 : ℝ) ≤ 15))
  have h2 : min ((15 : ℝ) : EReal) ((30 : ℝ) : EReal) = ((15 : ℝ) : EReal) :=
    min_eq_left (by exact_mod_cast (by norm_num : (15 : ℝ) ≤ 30))
  rw [h1, h2]
  have h3 : ⌊(15 : ℝ)⌋ = 15 := by exact_mod_cast Int.floor_intCast (15 : ℤ)
  show BitVec.ofInt 32 (max _ (min _ (if 0 ≤ (15 : ℝ) then ⌊(15 : ℝ)⌋ else ⌈(15 : ℝ)⌉))) = _
  rw [if_pos (by norm_num), h3]
  decide

/-- The start index of one gather of the reference: the quantile's position rounded down. -/
def atFloor : IVec S1 32 :=
  broadcastInDim S1 ![] bcast_S_S1 (fptosi 32 (minimumf (maximumf (Host.floor (F := Ideal) (mulf
    (constant S_ .f32 0x3F000000#32) (subf (constant S_ .f32 0x41F80000#32) (constant S_ .f32 0x3F800000#32))))
    (constant S_ .f32 0x00000000#32)) (subf (constant S_ .f32 0x41F80000#32) (constant S_ .f32 0x3F800000#32))))

/-- That start index is fifteen. -/
theorem atFloor_eq : atFloor = fun _ => 15#32 := by
  funext i
  have h3 : ⌊(15 : ℝ)⌋ = 15 := by exact_mod_cast Int.floor_intCast (15 : ℤ)
  have h4 : Ideal.liftRound Int.floor ((15 : ℝ) : EReal) = ((15 : ℝ) : EReal) := by
    show (((⌊(15 : ℝ)⌋ : ℤ) : ℝ) : EReal) = _
    rw [h3]
    norm_num
  show Ideal.fptosi 32 (min (max (Ideal.liftRound Int.floor (Ideal.ofBits .f32 0x3F000000#32
    * (Ideal.ofBits .f32 0x41F80000#32 - Ideal.ofBits .f32 0x3F800000#32))) (Ideal.ofBits .f32 0x00000000#32))
    (Ideal.ofBits .f32 0x41F80000#32 - Ideal.ofBits .f32 0x3F800000#32)) = _
  rw [lit_half, lit_31, Ideal.ofBits_one_f32, Ideal.ofBits_zero_f32, half_thirty, thirty, h4, word15]

/-- The start index of one gather of the reference: the quantile's position rounded up. -/
def atCeil : IVec S1 32 :=
  broadcastInDim S1 ![] bcast_S_S1 (fptosi 32 (minimumf (maximumf (Host.ceil (F := Ideal) (mulf
    (constant S_ .f32 0x3F000000#32) (subf (constant S_ .f32 0x41F80000#32) (constant S_ .f32 0x3F800000#32))))
    (constant S_ .f32 0x00000000#32)) (subf (constant S_ .f32 0x41F80000#32) (constant S_ .f32 0x3F800000#32))))

/-- That start index is fifteen. -/
theorem atCeil_eq : atCeil = fun _ => 15#32 := by
  funext i
  have h3 : ⌈(15 : ℝ)⌉ = 15 := by exact_mod_cast Int.ceil_intCast (15 : ℤ)
  have h4 : Ideal.liftRound Int.ceil ((15 : ℝ) : EReal) = ((15 : ℝ) : EReal) := by
    show (((⌈(15 : ℝ)⌉ : ℤ) : ℝ) : EReal) = _
    rw [h3]
    norm_num
  show Ideal.fptosi 32 (min (max (Ideal.liftRound Int.ceil (Ideal.ofBits .f32 0x3F000000#32
    * (Ideal.ofBits .f32 0x41F80000#32 - Ideal.ofBits .f32 0x3F800000#32))) (Ideal.ofBits .f32 0x00000000#32))
    (Ideal.ofBits .f32 0x41F80000#32 - Ideal.ofBits .f32 0x3F800000#32)) = _
  rw [lit_half, lit_31, Ideal.ofBits_one_f32, Ideal.ofBits_zero_f32, half_thirty, thirty, h4, word15]

/-- The entry `k` of the stacked axis over the entry `j`. -/
def stackAt (j : S2x2x1025x1024.Idx) (k : Fin 31) : S2x2x1025x1024x31.Idx :=
  ix5 (⟨(j 0).val, (j 0).isLt⟩ : Fin 2) (⟨(j 1).val, (j 1).isLt⟩ : Fin 2) (⟨(j 2).val, (j 2).isLt⟩ : Fin 1025)
    (⟨(j 3).val, (j 3).isLt⟩ : Fin 1024) k

/-- A gather of the reference at start 15 reads entry 15 of the last axis. -/
theorem gather15 (x : S2x2x1025x1024x31.Idx → EReal) (j : S2x2x1025x1024.Idx) :
    Host.gather gather_S2x2x1025x1024x31_S1_S2x2x1025x1024_0123_4_n_n_4_0_22102510241 x (fun _ => 15#32) j
      = x (stackAt j 15) := by
  unfold Host.gather
  congr 1
  funext a
  apply Fin.ext
  match a with
  | ⟨0, _⟩ =>
    show 0 + 0 + (j 0).val = (j 0).val
    omega
  | ⟨1, _⟩ =>
    show 0 + 0 + (j 1).val = (j 1).val
    omega
  | ⟨2, _⟩ =>
    show 0 + 0 + (j 2).val = (j 2).val
    omega
  | ⟨3, _⟩ =>
    show 0 + 0 + (j 3).val = (j 3).val
    omega
  | ⟨4, _⟩ => rfl

/-- No entry differs from itself, so the test for one along the stacked axis is false everywhere. -/
theorem none_unequal (x : S2x2x1025x1024x31.Idx → EReal) (j : S2x2x1025x1024.Idx) :
    Host.reduce IntOp.ori (cmpf (F := Ideal) (φ := .f32) .une x x) (constantI S_ 1 0#1)
      reducesTo_S2x2x1025x1024x31_S2x2x1025x1024_d4 h_S_ j = 0#1 := by
  have hx : (cmpf (F := Ideal) (φ := .f32) .une x x : IVec S2x2x1025x1024x31 1) = fun _ => 0#1 := by
    funext i
    show Ideal.cmp .une (x i) (x i) = 0#1
    simp [Ideal.cmp]
  rw [hx]
  unfold Host.reduce
  generalize List.filter _ _ = l
  show List.foldl _ (0#1) l = 0#1
  induction l with
  | nil => rfl
  | cons a l ih =>
    rw [List.foldl_cons]
    exact (congrArg (fun z => List.foldl _ z l) (by decide : IntOp.ori (0#1) (0#1) = 0#1)).trans ih

/-- The reference's quantile at one half of the values stacked on the last axis. -/
def quant (x : S2x2x1025x1024x31.Idx → EReal) : S2x2x1025x1024.Idx → EReal :=
  let sorted : FVec Ideal S2x2x1025x1024x31 .f32 := Host.sort S2x2x1025x1024x31 4 (comparator_f32_d4 (F := Ideal)) (select (broadcastInDim S2x2x1025x1024x31 ![0, 1, 2, 3, 4] bcast_S2x2x1025x1024x1_S2x2x1025x1024x31_0_1_2_3_4 (broadcastInDim S2x2x1025x1024x1 ![0, 1, 2, 3] bcast_S2x2x1025x1024_S2x2x1025x1024x1_0_1_2_3 (Host.reduce IntOp.ori (cmpf (F := Ideal) (φ := .f32) .une x x) (constantI S_ 1 0#1) reducesTo_S2x2x1025x1024x31_S2x2x1025x1024_d4 h_S_))) (broadcastInDim S2x2x1025x1024x31 ![] bcast_S_S2x2x1025x1024x31 (id (constant (F := Ideal) S_ .f32 0x7FC00000#32))) x)
  mulf (F := Ideal) (φ := .f32) (addf (Host.gather gather_S2x2x1025x1024x31_S1_S2x2x1025x1024_0123_4_n_n_4_0_22102510241 sorted atFloor) (Host.gather gather_S2x2x1025x1024x31_S1_S2x2x1025x1024_0123_4_n_n_4_0_22102510241 sorted atCeil)) (broadcastInDim S2x2x1025x1024 ![] bcast_S_S2x2x1025x1024 (constant S_ .f32 0x3F000000#32))

/-- Half of twice an extended real is that extended real. -/
theorem half_twice (a : EReal) : (a + a) * (((1 : ℝ) / 2 : ℝ) : EReal) = a := by
  induction a with
  | bot => exact EReal.bot_mul_coe_of_pos (by norm_num)
  | top => exact EReal.top_mul_coe_of_pos (by norm_num)
  | coe r =>
    rw [← EReal.coe_add, ← EReal.coe_mul]
    congr 1
    ring

/-- A sort along an axis, at an entry. -/
theorem sort_at {s : Shape} (d : Fin s.rank) (cmp : EReal → EReal → BitVec 1) (x : s.Idx → EReal) (j : s.Idx) :
    Host.sort s d.val cmp x j
      = x (j.along d (sortedFrom (fun k k' => cmp (x (j.along d k)) (x (j.along d k')) == 1#1) (j d))) := by
  unfold Host.sort
  rw [dif_pos d.isLt]

/-- The middle entry of the reference's sorted values is what the comparator network leaves on wire 15. -/
theorem sort15 (x : S2x2x1025x1024x31.Idx → EReal) (j : S2x2x1025x1024.Idx) :
    Host.sort S2x2x1025x1024x31 4 (comparator_f32_d4 (F := Ideal)) x (stackAt j 15)
      = mid31 min max fun k => x (stackAt j ⟨k % 31, Nat.mod_lt _ (by decide)⟩) := by
  have hal : ∀ k : Fin 31, (stackAt j 15).along (4 : Fin 5) k = stackAt j k := fun k => by
    funext a
    match a with
    | ⟨0, _⟩ => rfl
    | ⟨1, _⟩ => rfl
    | ⟨2, _⟩ => rfl
    | ⟨3, _⟩ => rfl
    | ⟨4, _⟩ => rfl
  let B : Fin 31 → Fin 31 → Bool := fun k k' => decide (x (stackAt j k) < x (stackAt j k'))
  have hsort : Host.sort S2x2x1025x1024x31 4 (comparator_f32_d4 (F := Ideal)) x (stackAt j 15)
      = x (stackAt j (sortedFrom B 15)) := by
    refine (sort_at (s := S2x2x1025x1024x31) (4 : Fin 5) (comparator_f32_d4 (F := Ideal)) x (stackAt j 15)).trans ?_
    simp only [before_iff]
    refine (congrArg x (hal _)).trans ?_
    have hB : (fun k k' : Fin 31 => decide (x ((stackAt j 15).along (4 : Fin 5) k) < x ((stackAt j 15).along (4 : Fin 5) k')))
        = B := by
      funext k k'
      rw [hal, hal]
    exact congrArg (fun C => x (stackAt j (sortedFrom C 15))) hB
  rw [hsort]
  have hmod : ∀ k : Fin 31, (⟨k.val % 31, Nat.mod_lt _ (by decide)⟩ : Fin 31) = k := fun k =>
    Fin.ext (Nat.mod_eq_of_lt k.isLt)
  refine ((mid31_eq (fun k => x (stackAt j ⟨k % 31, Nat.mod_lt _ (by decide)⟩)) (sortedFrom B)
    (sortedFrom_injective B) fun a b hab => ?_).trans ?_).symm
  · show x (stackAt j ⟨(sortedFrom B a).val % 31, _⟩) ≤ x (stackAt j ⟨(sortedFrom B b).val % 31, _⟩)
    rw [hmod, hmod]
    rcases hab.eq_or_lt with rfl | hlt
    · exact le_refl _
    · have h := sortedFrom_noInversion B B (fun k k' h => by simpa [B] using (of_decide_eq_true h).le)
        (fun _ _ h => h) (fun k k' k'' h1 h2 => by
          simp only [B, decide_eq_false_iff_not, not_lt] at h1 h2 ⊢
          exact h2.trans h1) a b hlt
      simpa [B] using h
  · exact congrArg (fun k => x (stackAt j k)) (hmod (sortedFrom B 15))

/-- The reference's median at an entry is what the comparator network leaves on wire 15. -/
theorem quant_apply (x : S2x2x1025x1024x31.Idx → EReal) (j : S2x2x1025x1024.Idx) :
    quant x j = mid31 min max fun k => x (stackAt j ⟨k % 31, Nat.mod_lt _ (by decide)⟩) := by
  have hsel : (select (broadcastInDim S2x2x1025x1024x31 ![0, 1, 2, 3, 4] bcast_S2x2x1025x1024x1_S2x2x1025x1024x31_0_1_2_3_4 (broadcastInDim S2x2x1025x1024x1 ![0, 1, 2, 3] bcast_S2x2x1025x1024_S2x2x1025x1024x1_0_1_2_3 (Host.reduce IntOp.ori (cmpf (F := Ideal) (φ := .f32) .une x x) (constantI S_ 1 0#1) reducesTo_S2x2x1025x1024x31_S2x2x1025x1024_d4 h_S_))) (broadcastInDim S2x2x1025x1024x31 ![] bcast_S_S2x2x1025x1024x31 (id (constant (F := Ideal) S_ .f32 0x7FC00000#32))) x) = x := by
    funext i
    unfold select Scalar.select broadcastInDim
    rw [none_unequal]
    rfl
  unfold quant
  simp only [hsel, atFloor_eq, atCeil_eq]
  show (Host.gather _ _ _ j + Host.gather _ _ _ j) * Ideal.ofBits .f32 0x3F000000#32 = _
  rw [gather15, sort15, lit_half, half_twice]

end Cert.Med

end
-- ==== Proof.Taps.lean ====
/-
  The spectrogram read with zeros around it: along the last axis and along the frequency axis.
-/
module

public import proofs.«01_k».proof.Proof.Net
public import Idealize.ShloMosaic.Lib.Pipeline.ValueKit

@[expose] public section

noncomputable section

namespace Cert.Med

/-- The spectrogram by its four coordinates. -/
abbrev Spec : Type := Fin 2 → Fin 2 → Fin 1025 → Fin 1024 → EReal

/-- Row `(a, b, f)` with fifteen zeros before it, at position `n`; zero past its end. -/
def lastAt (S : Spec) (a b : Fin 2) (f : Fin 1025) (n : Nat) : EReal :=
  if h : 15 ≤ n ∧ n < 1039 then S a b f ⟨n - 15, by omega⟩ else 0

/-- Column `(a, b, ·, t)` with fifteen zeros before it, at position `n`; zero past its end. -/
def freqAt (S : Spec) (a b : Fin 2) (n : Nat) (t : Fin 1024) : EReal :=
  if h : 15 ≤ n ∧ n < 1040 then S a b ⟨n - 15, by omega⟩ t else 0

/-- The median of the thirty-one entries of row `(a, b, f)` about time `t`. -/
def lastMed (S : Spec) (a b : Fin 2) (f : Fin 1025) (t : Fin 1024) : EReal :=
  mid31 min max fun k => lastAt S a b f (k % 31 + t.val)

/-- The median of the thirty-one entries of column `(a, b, ·, t)` about frequency `f`. -/
def freqMed (S : Spec) (a b : Fin 2) (f : Fin 1025) (t : Fin 1024) : EReal :=
  mid31 min max fun k => freqAt S a b (k % 31 + f.val) t

/-- The integer zero as an extended real. -/
theorem zero_fill : (Idealize.ShloMosaic.FloatOps.sitofp Idealize.ShloMosaic.FTy.f32 (0#32) : Idealize.ShloMosaic.Ideal .f32) = (0 : EReal) := by
  show ((((0#32 : BitVec 32).toInt : ℝ)) : EReal) = 0
  simp

end Cert.Med

end
-- ==== Proof.RefWindows.lean ====
/-
  The reference's stacked windows, at an entry: entry `k` of the stacked axis is the padded array `k` places further on.
-/
module

public import proofs.«01_k».proof.Proof.RefMedian
public import proofs.«01_k».proof.Proof.Taps
public import Idealize.ShloMosaic.Lib.Tactic.CleanTypes

@[expose] public section

set_option maxRecDepth 16384

noncomputable section

namespace Cert.Med

open Cert.ReferenceIdeal Cert.ReferenceIdeal.Gen Cert.ReferenceIdeal.Value Idealize.ShloMosaic Idealize.ShloMosaic.TcCoe Idealize.ShloMosaic.Tactic
open Idealize.SL.Sem

/-- Two stacks of sixteen and fifteen windows laid end to end, at an entry: the first stack below sixteen, the second
from there. -/
theorem halves (x : S2x2x1025x1024x16.Idx → EReal) (y : S2x2x1025x1024x15.Idx → EReal)
    (h : Shape.Concatenates [S2x2x1025x1024x16, S2x2x1025x1024x15] S2x2x1025x1024x31 4)
    (j : S2x2x1025x1024.Idx) (k : Fin 31) (v : EReal)
    (hx : ∀ q : Fin 16, q.val = k.val → x (ix5 (⟨(j 0).val, (j 0).isLt⟩ : Fin 2) (⟨(j 1).val, (j 1).isLt⟩ : Fin 2)
      (⟨(j 2).val, (j 2).isLt⟩ : Fin 1025) (⟨(j 3).val, (j 3).isLt⟩ : Fin 1024) q) = v)
    (hy : ∀ q : Fin 15, q.val + 16 = k.val → y (ix5 (⟨(j 0).val, (j 0).isLt⟩ : Fin 2) (⟨(j 1).val, (j 1).isLt⟩ : Fin 2)
      (⟨(j 2).val, (j 2).isLt⟩ : Fin 1025) (⟨(j 3).val, (j 3).isLt⟩ : Fin 1024) q) = v) :
    concatenate S2x2x1025x1024x31 4 [⟨S2x2x1025x1024x16, x⟩, ⟨S2x2x1025x1024x15, y⟩] h (stackAt j k) = v := by
  by_cases hk : k.val < 16
  · rw [← hx ⟨k.val, hk⟩ rfl]
    refine concatenate_pair_apply_left _ x y h _ rfl _ fun b => ?_
    fin_cases b <;> rfl
  · rw [← hy ⟨k.val - 16, by omega⟩ (by show k.val - 16 + 16 = k.val; omega)]
    refine concatenate_pair_apply_right _ x y h _ rfl rfl _ (fun b hb => ?_) ?_
    · fin_cases b
      · rfl
      · rfl
      · rfl
      · rfl
      · exact absurd rfl hb
    · show k.val - 16 + 16 = k.val
      omega

/-- Entry `k` of the windows along the last axis is the padded array `k` places further on. -/
theorem windows_last (V0 : Valuation τ sig (Elt Ideal)) (j : S2x2x1025x1024.Idx) (k : Fin 31) :
    (res_main_v35 V0 : S2x2x1025x1024x31.Idx → EReal) (stackAt j k)
      = (res_main_v1 V0 : S2x2x1025x1054x1.Idx → EReal)
        (ix5 (⟨(j 0).val, (j 0).isLt⟩ : Fin 2) (⟨(j 1).val, (j 1).isLt⟩ : Fin 2)
          (⟨(j 2).val, (j 2).isLt⟩ : Fin 1025) (⟨k.val + (j 3).val, by have h : (j 3).val < 1024 := (j 3).isLt; omega⟩ : Fin 1054) (0 : Fin 1)) := by
  unfold res_main_v35
  generalize res_main_v1 V0 = p
  refine halves _ _ _ j k _ (fun q hq => ?_) fun q hq => ?_
  all_goals concat_tiles i h
  all_goals
    refine congrArg p (funext fun b => Fin.ext ?_)
    have e : q.val = _ := h
    fin_cases b
    exacts [(Nat.zero_add _).trans h0, (Nat.zero_add _).trans h1, (Nat.zero_add _).trans h2, congrArg₂ (· + ·) (by first | exact e.symm.trans hq | exact (congrArg (· + 16) e).symm.trans hq) h3, (Nat.zero_add _).trans h4]

/-- Entry `k` of the windows along the frequency axis is the padded array `k` places further on. -/
theorem windows_freq (V0 : Valuation τ sig (Elt Ideal)) (j : S2x2x1025x1024.Idx) (k : Fin 31) :
    (res_main_v72 V0 : S2x2x1025x1024x31.Idx → EReal) (stackAt j k)
      = (res_main_v38 V0 : S2x2x1055x1024x1.Idx → EReal)
        (ix5 (⟨(j 0).val, (j 0).isLt⟩ : Fin 2) (⟨(j 1).val, (j 1).isLt⟩ : Fin 2)
          (⟨k.val + (j 2).val, by have h : (j 2).val < 1025 := (j 2).isLt; omega⟩ : Fin 1055) (⟨(j 3).val, (j 3).isLt⟩ : Fin 1024) (0 : Fin 1)) := by
  unfold res_main_v72
  generalize res_main_v38 V0 = p
  refine halves _ _ _ j k _ (fun q hq => ?_) fun q hq => ?_
  all_goals concat_tiles i h
  all_goals
    refine congrArg p (funext fun b => Fin.ext ?_)
    have e : q.val = _ := h
    fin_cases b
    exacts [(Nat.zero_add _).trans h0, (Nat.zero_add _).trans h1, congrArg₂ (· + ·) (by first | exact e.symm.trans hq | exact (congrArg (· + 16) e).symm.trans hq) h2, (Nat.zero_add _).trans h3, (Nat.zero_add _).trans h4]

/-- The reference's argument by its four coordinates. -/
def refSpec (V0 : Valuation τ sig (Elt Ideal)) : Spec := fun a b f t =>
  (V0 (Proc.devRef .tc main_arg0) : S2x2x1025x1024.Idx → EReal) (ix4 a b f t)

/-- The array padded along the last axis, at an entry. -/
theorem padded_last (V0 : Valuation τ sig (Elt Ideal)) (a b : Fin 2) (f : Fin 1025) (t : Fin 1054) :
    (res_main_v1 V0 : S2x2x1025x1054x1.Idx → EReal) (ix5 a b f t (0 : Fin 1)) = lastAt (refSpec V0) a b f t.val := by
  unfold res_main_v1 lastAt refSpec
  clean_types
  pointwise
  split_ifs <;> first | rfl | exact zero_fill | omega

/-- The array padded along the frequency axis, at an entry. -/
theorem padded_freq (V0 : Valuation τ sig (Elt Ideal)) (a b : Fin 2) (f : Fin 1055) (t : Fin 1024) :
    (res_main_v38 V0 : S2x2x1055x1024x1.Idx → EReal) (ix5 a b f t (0 : Fin 1)) = freqAt (refSpec V0) a b f.val t := by
  unfold res_main_v38 freqAt refSpec
  clean_types
  pointwise
  split_ifs <;> first | rfl | exact zero_fill | omega

/-- The reference's median along the last axis, at an entry. -/
theorem harm_apply (V0 : Valuation τ sig (Elt Ideal)) (a b : Fin 2) (f : Fin 1025) (t : Fin 1024) :
    (res_main_v36 V0 : S2x2x1025x1024.Idx → EReal) (ix4 a b f t)
      = lastMed (refSpec V0) a b f t := by
  have e : (res_main_v36 V0 : S2x2x1025x1024.Idx → EReal) = quant (res_main_v35 V0) := rfl
  refine ((congrFun e _).trans (quant_apply _ _)).trans ?_
  refine congrArg (mid31 (min : EReal → EReal → EReal) max) (funext fun k => ?_)
  exact (windows_last V0 _ _).trans (padded_last V0 _ _ _ _)

/-- The reference's median along the frequency axis, at an entry. -/
theorem perc_apply (V0 : Valuation τ sig (Elt Ideal)) (a b : Fin 2) (f : Fin 1025) (t : Fin 1024) :
    (res_main_v73 V0 : S2x2x1025x1024.Idx → EReal) (ix4 a b f t)
      = freqMed (refSpec V0) a b f t := by
  have e : (res_main_v73 V0 : S2x2x1025x1024.Idx → EReal) = quant (res_main_v72 V0) := rfl
  refine ((congrFun e _).trans (quant_apply _ _)).trans ?_
  refine congrArg (mid31 (min : EReal → EReal → EReal) max) (funext fun k => ?_)
  exact (windows_freq V0 _ _).trans (padded_freq V0 _ _ _ _)

end Cert.Med

end
-- ==== Proof.RefOut.lean ====
/-
  The reference's two results at an entry.
-/
module

public import proofs.«01_k».proof.Proof.RefWindows

@[expose] public section

set_option maxRecDepth 16384

noncomputable section

namespace Cert.Med

open Cert.ReferenceIdeal Cert.ReferenceIdeal.Gen Cert.ReferenceIdeal.Value Idealize.ShloMosaic Idealize.ShloMosaic.TcCoe Idealize.ShloMosaic.Tactic
open Idealize.SL.Sem

/-- An array holding one constant everywhere. -/
abbrev fill (w : BitVec 32) : FVec Ideal S2x2x1025x1024 .f32 :=
  broadcastInDim S2x2x1025x1024 ![] bcast_S_S2x2x1025x1024 (constant S_ .f32 w)

/-- The soft masks' common divisor as the reference forms it: the greater of `x` and `y`, or one where that is below
the least normal number. -/
abbrev divisors (x y : FVec Ideal S2x2x1025x1024 .f32) : FVec Ideal S2x2x1025x1024 .f32 :=
  select (cmpf .olt (maximumf x y) (fill 0x00800000#32)) (fill 0x3F800000#32) (maximumf x y)

/-- One result as the reference forms it from the argument `s` and the two medians `x` and `y`. -/
abbrev masked (s x y : FVec Ideal S2x2x1025x1024 .f32) : FVec Ideal S2x2x1025x1024 .f32 :=
  mulf s (Host.divf (Host.powf (Host.divf x (divisors x (mulf y (fill 0x3F800000#32)))) (fill 0x40000000#32))
    (addf (Host.powf (Host.divf x (divisors x (mulf y (fill 0x3F800000#32)))) (fill 0x40000000#32))
      (Host.powf (Host.divf (mulf y (fill 0x3F800000#32)) (divisors x (mulf y (fill 0x3F800000#32)))) (fill 0x40000000#32))))

/-- The soft masks' common divisor at an entry. -/
def divisor (x y : EReal) : EReal :=
  if max x y < Ideal.ofBits .f32 0x00800000#32 then 1 else max x y

/-- One entry of a soft mask: the square of `x` over the sum of the squares of `x` and `y`, each first divided by
their common divisor. -/
def softmask (x y : EReal) : EReal :=
  Ideal.div (Ideal.pow (Ideal.div x (divisor x y)) (Ideal.ofBits .f32 0x40000000#32))
    (Ideal.pow (Ideal.div x (divisor x y)) (Ideal.ofBits .f32 0x40000000#32)
      + Ideal.pow (Ideal.div y (divisor x y)) (Ideal.ofBits .f32 0x40000000#32))

/-- The common divisor's array, at an entry. -/
theorem divisors_apply (x y : FVec Ideal S2x2x1025x1024 .f32) (i : S2x2x1025x1024.Idx) :
    (divisors x y i : EReal) = divisor (x i) (y i) := by
  show (if Ideal.cmp .olt (max (x i : EReal) (y i)) (Ideal.ofBits .f32 0x00800000#32) = 1#1
    then Ideal.ofBits .f32 0x3F800000#32 else max (x i : EReal) (y i)) = _
  rw [Ideal.ofBits_one_f32]
  unfold divisor Ideal.cmp
  by_cases h : max (x i : EReal) (y i) < Ideal.ofBits .f32 0x00800000#32
  · rw [if_pos h, if_pos]
    simp [h]
  · rw [if_neg h, if_neg]
    simp [h]

/-- One result of the reference, at an entry. -/
theorem masked_apply (s x y : FVec Ideal S2x2x1025x1024 .f32) (i : S2x2x1025x1024.Idx) :
    (masked s x y i : EReal) = (s i : EReal) * softmask (x i) (y i) := by
  have e : (mulf y (fill 0x3F800000#32) : FVec Ideal S2x2x1025x1024 .f32) = y := by
    funext j
    show (y j : EReal) * Ideal.ofBits .f32 0x3F800000#32 = y j
    rw [Ideal.ofBits_one_f32, mul_one]
  unfold masked
  rw [e]
  show (s i : EReal) * Ideal.div (Ideal.pow (Ideal.div (x i) (divisors x y i)) (Ideal.ofBits .f32 0x40000000#32))
    (Ideal.pow (Ideal.div (x i) (divisors x y i)) (Ideal.ofBits .f32 0x40000000#32)
      + Ideal.pow (Ideal.div (y i) (divisors x y i)) (Ideal.ofBits .f32 0x40000000#32)) = _
  rw [divisors_apply]
  rfl

end Cert.Med

end
-- ==== Proof.Algebra.lean ====
/-
  The reference's soft mask and the kernel's share of two squares are one number where the precondition holds.
-/
module

public import proofs.«01_k».proof.Proof.Body
public import proofs.«01_k».proof.Proof.RefOut

@[expose] public section

noncomputable section

namespace Cert.Med

open Idealize.ShloMosaic

/-- The exponent is two. -/
theorem lit_two : Ideal.ofBits .f32 0x40000000#32 = ((2 : ℝ) : EReal) := by
  simp [Ideal.ofBits, Ideal.ieee]
  rw [← EReal.coe_mul]
  norm_num

/-- The least normal number is positive. -/
theorem lit_tiny : ∃ r : ℝ, 0 < r ∧ Ideal.ofBits .f32 0x00800000#32 = (r : EReal) := by
  refine ⟨8388608 * (2 ^ 149)⁻¹, by positivity, ?_⟩
  simp [Ideal.ofBits, Ideal.ieee]

/-- The common divisor of two values neither of which is infinite is a positive real. -/
theorem divisor_pos (x y : EReal) (hx : x ≠ ⊤) (hy : y ≠ ⊤) : ∃ z : ℝ, 0 < z ∧ divisor x y = (z : EReal) := by
  obtain ⟨r, hr, e⟩ := lit_tiny
  unfold divisor
  rw [e]
  split_ifs with h
  · exact ⟨1, one_pos, rfl⟩
  · have h1 : (r : EReal) ≤ max x y := not_lt.mp h
    have h2 : max x y ≠ ⊤ := by
      rcases max_choice x y with m | m <;> rw [m] <;> assumption
    have h3 : max x y ≠ ⊥ := fun b => by
      rw [b] at h1
      exact absurd h1 (not_le.mpr (EReal.bot_lt_coe r))
    refine ⟨(max x y).toReal, ?_, (EReal.coe_toReal h2 h3).symm⟩
    have h4 : (r : EReal) ≤ ((max x y).toReal : EReal) := by rwa [EReal.coe_toReal h2 h3]
    exact lt_of_lt_of_le hr (EReal.coe_le_coe_iff.mp h4)

/-- The square of a real over a positive real. -/
theorem square_coe (a z : ℝ) (hz : 0 < z) :
    Ideal.pow (Ideal.div (a : EReal) (z : EReal)) ((2 : ℝ) : EReal) = (((a / z) ^ 2 : ℝ) : EReal) := by
  have h : (z : EReal) ≠ 0 := by exact_mod_cast hz.ne'
  have e : Ideal.div (a : EReal) (z : EReal) = ((a / z : ℝ) : EReal) := by
    unfold Ideal.div
    rw [if_neg h, ← EReal.coe_inv, ← EReal.coe_mul, div_eq_mul_inv]
  rw [e]
  show ((Real.rpow (a / z) 2 : ℝ) : EReal) = _
  exact congrArg _ (Real.rpow_two _)

/-- The square of minus infinity over a positive real is minus infinity. -/
theorem square_bot (z : ℝ) (hz : 0 < z) : Ideal.pow (Ideal.div ⊥ (z : EReal)) ((2 : ℝ) : EReal) = ⊥ := by
  have h : (z : EReal) ≠ 0 := by exact_mod_cast hz.ne'
  have e : Ideal.div ⊥ (z : EReal) = ⊥ := by
    unfold Ideal.div
    rw [if_neg h, ← EReal.coe_inv]
    exact EReal.bot_mul_coe_of_pos (inv_pos.mpr hz)
  rw [e]
  rfl

/-- Anything over minus infinity is nought. -/
theorem div_bot (x : EReal) : Ideal.div x ⊥ = 0 := by
  unfold Ideal.div
  rw [if_neg (by decide), EReal.inv_bot, mul_zero]

/-- One over plus infinity is nought. -/
theorem one_div_top : Ideal.div 1 ⊤ = 0 := by
  unfold Ideal.div
  rw [if_neg (by decide), EReal.inv_top, mul_zero]

/-- The soft mask is the square of the first value times one over the sum of the two squares. -/
theorem softmask_eq (x y : EReal) (hx : x ≠ ⊤) (hy : y ≠ ⊤) (h0 : x ≠ 0 ∨ y ≠ 0) :
    softmask x y = x * x * Ideal.div 1 (x * x + y * y) := by
  obtain ⟨z, hz, e⟩ := divisor_pos x y hx hy
  unfold softmask
  rw [e, lit_two]
  induction x with
  | top => exact absurd rfl hx
  | bot =>
    rw [square_bot z hz, EReal.bot_add, div_bot, EReal.bot_mul_bot]
    have t : (⊤ : EReal) + y * y = ⊤ := by
      induction y with
      | top => exact absurd rfl hy
      | bot => rw [EReal.bot_mul_bot]; rfl
      | coe b => rw [← EReal.coe_mul, EReal.top_add_coe]
    rw [t, one_div_top, mul_zero]
  | coe a =>
    induction y with
    | top => exact absurd rfl hy
    | bot =>
      rw [square_bot z hz, EReal.add_bot, div_bot, EReal.bot_mul_bot, ← EReal.coe_mul, EReal.coe_add_top, one_div_top,
        mul_zero]
    | coe b =>
      rw [square_coe a z hz, square_coe b z hz]
      have hab : a * a + b * b ≠ 0 := by
        rcases h0 with h | h
        · have ha : a ≠ 0 := by exact_mod_cast h
          exact ne_of_gt (add_pos_of_pos_of_nonneg (mul_self_pos.mpr ha) (mul_self_nonneg b))
        · have hb : b ≠ 0 := by exact_mod_cast h
          exact ne_of_gt (add_pos_of_nonneg_of_pos (mul_self_nonneg a) (mul_self_pos.mpr hb))
      have hq : (a / z) ^ 2 + (b / z) ^ 2 = (a * a + b * b) / z ^ 2 := by
        field_simp
      have hq0 : (a / z) ^ 2 + (b / z) ^ 2 ≠ 0 := by
        rw [hq]
        exact div_ne_zero hab (by positivity)
      have e1 : ((((a / z) ^ 2 + (b / z) ^ 2 : ℝ)) : EReal) ≠ 0 := by exact_mod_cast hq0
      have e2 : (((a * a + b * b : ℝ)) : EReal) ≠ 0 := by exact_mod_cast hab
      unfold Ideal.div
      rw [← EReal.coe_add, if_neg e1, ← EReal.coe_inv, ← EReal.coe_mul, ← EReal.coe_mul, ← EReal.coe_mul, ← EReal.coe_add,
        if_neg e2, ← EReal.coe_inv, one_mul, ← EReal.coe_mul]
      refine congrArg _ ?_
      rw [hq]
      field_simp

/-- The argument times the soft mask is the kernel's share. -/
theorem masked_eq_share (s x y : EReal) (h : (x ≠ ⊤ ∧ y ≠ ⊤ ∧ (x ≠ 0 ∨ y ≠ 0)) ∨ s = 0) :
    s * softmask x y = share s x (x * x + y * y) := by
  rcases h with ⟨hx, hy, h0⟩ | h
  · rw [softmask_eq x y hx hy h0]
    rfl
  · unfold share
    rw [h, zero_mul, zero_mul]

end Cert.Med

end
-- ==== Proof.Arrays.lean ====
/-
  The two arrays the kernel leaves, as functions of the three padded arrays it reads.
-/
module

public import proofs.«01_k».proof.Proof.Body

@[expose] public section

set_option maxRecDepth 16384

noncomputable section

namespace Cert.Med

open Cert.KernelIdeal Cert.KernelIdeal.Gen Idealize.ShloMosaic Idealize.ShloMosaic.TcCoe Idealize.ShloMosaic.Tactic
open Idealize.SL.Sem

/-- The row median at an entry of the array padded for it. -/
def rowArr (X : S4x1152x1152.Idx → EReal) (i : S4x1152x1024.Idx) : EReal :=
  midE fun k => X (ix3 (⟨(i 0).val, (i 0).isLt⟩ : Fin 4) (⟨(i 1).val, (i 1).isLt⟩ : Fin 1152) (⟨k % 31 + (i 2).val, by
    have h2 : (i 2).val < 1024 := (i 2).isLt
    have h3 : k % 31 < 31 := Nat.mod_lt _ (by decide)
    omega⟩ : Fin 1152))

/-- The column median at an entry of the array padded for it. -/
def colArr (X : S4x1184x1024.Idx → EReal) (i : S4x1152x1024.Idx) : EReal :=
  midE fun k => X (ix3 (⟨(i 0).val, (i 0).isLt⟩ : Fin 4) (⟨k % 31 + (i 1).val, by
    have h2 : (i 1).val < 1152 := (i 1).isLt
    have h3 : k % 31 < 31 := Nat.mod_lt _ (by decide)
    omega⟩ : Fin 1184) (⟨(i 2).val, (i 2).isLt⟩ : Fin 1024))

/-- The first array. -/
def arrH (X : S4x1152x1152.Idx → EReal) (Y : S4x1184x1024.Idx → EReal) (Z : S4x1152x1024.Idx → EReal)
    (i : S4x1152x1024.Idx) : EReal :=
  share (Z i) (rowArr X i) (rowArr X i * rowArr X i + colArr Y i * colArr Y i)

/-- The second array. -/
def arrP (X : S4x1152x1152.Idx → EReal) (Y : S4x1184x1024.Idx → EReal) (Z : S4x1152x1024.Idx → EReal)
    (i : S4x1152x1024.Idx) : EReal :=
  share (Z i) (colArr Y i) (rowArr X i * rowArr X i + colArr Y i * colArr Y i)

/-- The block each window holds at a grid point. -/
theorem idxs : ∀ t : Fin grid0.N, win0_0.index t = ![(grid0.coords t 0).val, 0, 0]
    ∧ win0_1.index t = ![(grid0.coords t 0).val, 0, 0]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val] := by
  decide +kernel

variable (m : (ℓ : Loc nD τ sig) → Buf (Elt Ideal) ℓ)

/-- The row median of a block is the row median of the array at the block's place. -/
theorem rowMid_blk (c : Dev nD) (t : Fin cfg0.N) (y : S1x1152x128.Idx) (i : S4x1152x1024.Idx)
    (h0 : (i 0).val = (grid0.coords t 0).val) (h1 : (i 1).val = (y 1).val)
    (h2 : (i 2).val = 128 * (grid0.coords t 1).val + (y 2).val) :
    rowMid (grid0.coords t) (iblk m c 0 t) y = rowArr (V m c main_v2) i := by
  unfold rowMid rowArr
  congr 1
  funext k
  obtain ⟨e, -⟩ := idxs t
  blk_ext [iblk, e]

/-- The column median of a block is the column median of the array at the block's place. -/
theorem colMid_blk (c : Dev nD) (t : Fin cfg0.N) (y : S1x1152x128.Idx) (i : S4x1152x1024.Idx)
    (h0 : (i 0).val = (grid0.coords t 0).val) (h1 : (i 1).val = (y 1).val)
    (h2 : (i 2).val = 128 * (grid0.coords t 1).val + (y 2).val) :
    colMid (grid0.coords t) (iblk m c 1 t) y = colArr (V m c main_v3) i := by
  unfold colMid colArr
  congr 1
  funext k
  obtain ⟨-, e, -⟩ := idxs t
  blk_ext [iblk, e]

/-- The block of the third window at a point is the padded array at the block's place. -/
theorem third_blk (c : Dev nD) (t : Fin cfg0.N) (y : S1x1152x128.Idx) (i : S4x1152x1024.Idx)
    (h0 : (i 0).val = (grid0.coords t 0).val) (h1 : (i 1).val = (y 1).val)
    (h2 : (i 2).val = 128 * (grid0.coords t 1).val + (y 2).val) :
    iblk m c 2 t y = V m c main_v1 i := by
  obtain ⟨-, -, e, -⟩ := idxs t
  have hy : (y 0).val = 0 := by
    have := (y 0).isLt
    exact Nat.lt_one_iff.mp this
  blk_ext [iblk, e]

/-- The first result of a block is the first array at the block's place. -/
theorem bodyH_blk (c : Dev nD) (t : Fin cfg0.N) (y : S1x1152x128.Idx) (i : S4x1152x1024.Idx)
    (h0 : (i 0).val = (grid0.coords t 0).val) (h1 : (i 1).val = (y 1).val)
    (h2 : (i 2).val = 128 * (grid0.coords t 1).val + (y 2).val) :
    bodyH (grid0.coords t) (iblk m c 0 t) (iblk m c 1 t) (iblk m c 2 t) y
      = arrH (V m c main_v2) (V m c main_v3) (V m c main_v1) i := by
  unfold bodyH arrH
  rw [rowMid_blk m c t y i h0 h1 h2, colMid_blk m c t y i h0 h1 h2, third_blk m c t y i h0 h1 h2]

/-- The second result of a block is the second array at the block's place. -/
theorem bodyP_blk (c : Dev nD) (t : Fin cfg0.N) (y : S1x1152x128.Idx) (i : S4x1152x1024.Idx)
    (h0 : (i 0).val = (grid0.coords t 0).val) (h1 : (i 1).val = (y 1).val)
    (h2 : (i 2).val = 128 * (grid0.coords t 1).val + (y 2).val) :
    bodyP (grid0.coords t) (iblk m c 0 t) (iblk m c 1 t) (iblk m c 2 t) y
      = arrP (V m c main_v2) (V m c main_v3) (V m c main_v1) i := by
  unfold bodyP arrP
  rw [rowMid_blk m c t y i h0 h1 h2, colMid_blk m c t y i h0 h1 h2, third_blk m c t y i h0 h1 h2]

/-- The place of an entry of a block of the fourth window. -/
theorem place3 (t : Fin grid0.N) (y : S1x1152x128.Idx) (j : S4x1152x1024.Idx)
    (hj : j = ((View.whole main_v4_0).slice (win0_3.rect t)).emb y) :
    (j 0).val = (grid0.coords t 0).val ∧ (j 1).val = (y 1).val
      ∧ (j 2).val = 128 * (grid0.coords t 1).val + (y 2).val := by
  obtain ⟨-, -, -, e, -⟩ := idxs t
  have hy : (y 0).val = 0 := by
    have := (y 0).isLt
    exact Nat.lt_one_iff.mp this
  subst hj
  refine ⟨?_, ?_, ?_⟩
  all_goals
    blk_simp [e]
  omega

/-- The place of an entry of a block of the fifth window. -/
theorem place4 (t : Fin grid0.N) (y : S1x1152x128.Idx) (j : S4x1152x1024.Idx)
    (hj : j = ((View.whole main_v4_1).slice (win0_4.rect t)).emb y) :
    (j 0).val = (grid0.coords t 0).val ∧ (j 1).val = (y 1).val
      ∧ (j 2).val = 128 * (grid0.coords t 1).val + (y 2).val := by
  obtain ⟨-, -, -, -, e⟩ := idxs t
  have hy : (y 0).val = 0 := by
    have := (y 0).isLt
    exact Nat.lt_one_iff.mp this
  subst hj
  refine ⟨?_, ?_, ?_⟩
  all_goals
    blk_simp [e]
  omega

/-- The first array after the run. -/
theorem final3 (c : Dev nD) : (dats m 0 c).arrAt 3 cfg0.N = arrH (V m c main_v2) (V m c main_v3) (V m c main_v1) := by
  refine (dats m 0 c).arrAt_eq_of_covers 3 _ (by decide +kernel) fun t hf y => ?_
  blk_simp
  rw [after0_3]
  unfold outsAt0
  dsimp only
  rw [out3_apply]
  obtain ⟨h0, h1, h2⟩ := place3 t y _ rfl
  exact bodyH_blk m c t y _ h0 h1 h2

/-- The second array after the run. -/
theorem final4 (c : Dev nD) : (dats m 0 c).arrAt 4 cfg0.N = arrP (V m c main_v2) (V m c main_v3) (V m c main_v1) := by
  refine (dats m 0 c).arrAt_eq_of_covers 4 _ (by decide +kernel) fun t hf y => ?_
  blk_simp
  rw [after0_4]
  unfold outsAt0
  dsimp only
  rw [out4_apply]
  obtain ⟨h0, h1, h2⟩ := place4 t y _ rfl
  exact bodyP_blk m c t y _ h0 h1 h2

end Cert.Med

end
-- ==== Proof.KernelRun.lean ====
/-
  The kernel's run: its two results as functions of its argument.
-/
module

public import proofs.«01_k».proof.Proof.Arrays
public import proofs.«01_k».proof.Proof.Taps
public import Idealize.ShloMosaic.Lib.Claim
public import Idealize.ShloMosaic.Lib.Tactic.CleanTypes

@[expose] public section

set_option maxRecDepth 16384

noncomputable section

namespace Cert.Med

open Cert.KernelIdeal Cert.KernelIdeal.Gen Idealize.ShloMosaic Idealize.ShloMosaic.TcCoe Idealize.ShloMosaic.Tactic
open Idealize.SL.Sem

variable (m : (ℓ : Loc nD τ sig) → Buf (Elt Ideal) ℓ)

/-- The kernel's argument by its four coordinates. -/
def argSpec (c : Dev nD) : Spec := fun a b f t =>
  (m ((c.tc : Thread nD τ).loc main_arg0) : S2x2x1025x1024.Idx → EReal) (ix4 a b f t)

/-- The argument with its two leading axes laid as one, a hundred and twenty-seven rows of zeros after its rows. -/
def base (c : Dev nD) : S4x1152x1024.Idx → EReal :=
  pad S4x1152x1024 ![0, 0, 0] ![0, 127, 0] ![0, 0, 0]
    (shapeCast S4x1025x1024 (m ((c.tc : Thread nD τ).loc main_arg0) : S2x2x1025x1024.Idx → EReal)
      shapeCasts_S2x2x1025x1024_S4x1025x1024)
    (sitofp (F := Ideal) .f32 (constantI S_ 32 0#32)) pads_S4x1025x1024_S4x1152x1024_000_01270_000 h_S_

/-- The three padded arrays as the region finds them. -/
theorem entry1 (c : Dev nD) : (V m c main_v1 : S4x1152x1024.Idx → EReal) = base m c := by
  unfold_abbrev_sides
  simp only [hostOps0, hostOps0_1, hostOps0_2, hostOps0_3, hostOps0_4, hostOps0_5, List.flatten_cons, List.flatten_nil,
    List.cons_append, List.nil_append, List.append_nil]
  after_results
  rfl

/-- The array padded along its rows' length. -/
theorem entry2 (c : Dev nD) : (V m c main_v2 : S4x1152x1152.Idx → EReal)
    = pad S4x1152x1152 ![0, 0, 15] ![0, 0, 113] ![0, 0, 0] (base m c)
      (sitofp (F := Ideal) .f32 (constantI S_ 32 0#32)) pads_S4x1152x1024_S4x1152x1152_000_000_151130 h_S_ := by
  unfold_abbrev_sides
  simp only [hostOps0, hostOps0_1, hostOps0_2, hostOps0_3, hostOps0_4, hostOps0_5, List.flatten_cons, List.flatten_nil,
    List.cons_append, List.nil_append, List.append_nil]
  after_results
  rfl

/-- The array padded along its columns' length. -/
theorem entry3 (c : Dev nD) : (V m c main_v3 : S4x1184x1024.Idx → EReal)
    = pad S4x1184x1024 ![0, 15, 0] ![0, 17, 0] ![0, 0, 0] (base m c)
      (sitofp (F := Ideal) .f32 (constantI S_ 32 0#32)) pads_S4x1152x1024_S4x1184x1024_000_15170_000 h_S_ := by
  unfold_abbrev_sides
  simp only [hostOps0, hostOps0_1, hostOps0_2, hostOps0_3, hostOps0_4, hostOps0_5, List.flatten_cons, List.flatten_nil,
    List.cons_append, List.nil_append, List.append_nil]
  after_results
  rfl

/-- The first padded array at an entry. -/
theorem base_apply (c : Dev nD) (a b : Fin 2) (q : Fin 4) (hq : q.val = 2 * a.val + b.val) (f : Fin 1152) (t : Fin 1024) :
    base m c (ix3 q f t) = if h : f.val < 1025 then argSpec m c a b ⟨f.val, h⟩ t else 0 := by
  have ea : (⟨q.val / 2, by omega⟩ : Fin 2) = a := Fin.ext (by show q.val / 2 = a.val; omega)
  have eb : (⟨q.val % 2, by omega⟩ : Fin 2) = b := Fin.ext (by show q.val % 2 = b.val; omega)
  unfold base
  clean_types
  pointwise
  split_ifs with h
  · exact congrArg₂ (fun a b => argSpec m c a b ⟨f.val, h⟩ t) ea eb
  · exact zero_fill

/-- The second padded array at an entry of a row of the argument. -/
theorem row_apply (c : Dev nD) (a b : Fin 2) (q : Fin 4) (hq : q.val = 2 * a.val + b.val) (f : Fin 1152)
    (hf : f.val < 1025) (n : Fin 1152) :
    (V m c main_v2 : S4x1152x1152.Idx → EReal) (ix3 q f n) = lastAt (argSpec m c) a b ⟨f.val, hf⟩ n.val := by
  refine (congrFun (entry2 m c) _).trans ?_
  have hb : ∀ t, base m c (ix3 q f t) = argSpec m c a b ⟨f.val, hf⟩ t := fun t =>
    (base_apply m c a b q hq f t).trans (dif_pos hf)
  unfold lastAt
  generalize base m c = B at hb ⊢
  clean_types
  pointwise
  split_ifs <;> first | exact hb _ | exact zero_fill | omega

/-- The third padded array at an entry. -/
theorem col_apply (c : Dev nD) (a b : Fin 2) (q : Fin 4) (hq : q.val = 2 * a.val + b.val) (n : Fin 1184)
    (t : Fin 1024) :
    (V m c main_v3 : S4x1184x1024.Idx → EReal) (ix3 q n t) = freqAt (argSpec m c) a b n.val t := by
  refine (congrFun (entry3 m c) _).trans ?_
  have hb := fun f => base_apply m c a b q hq f t
  unfold freqAt
  generalize base m c = B at hb ⊢
  clean_types
  pointwise
  split_ifs
  all_goals first | exact zero_fill | omega | skip
  all_goals refine (hb _).trans ?_
  · exact dif_pos _
  · exact dif_neg (by show ¬ n.val - 15 < 1025; omega)

/-- The lines after the region: the first 1025 rows, the leading axis split in two. -/
def unpack (A : S4x1152x1024.Idx → EReal) : S2x2x1025x1024.Idx → EReal :=
  shapeCast S2x2x1025x1024 (extractStridedSlice S4x1025x1024 ![0, 0, 0] A slices_S4x1152x1024_S4x1025x1024_0_0_0)
    shapeCasts_S4x1025x1024_S2x2x1025x1024

/-- Result `main_v6` from the first array the region leaves. -/
theorem tail6 (c : Dev nD) : (Pipeline.afterTail₀ cfgs (dats m) 0 (V0 m) [hostOps1] c main_v6 : S2x2x1025x1024.Idx → EReal)
    = unpack (arrH (V m c main_v2) (V m c main_v3) (V m c main_v1)) := by
  have e : Pipeline.withArrays (cfgs 0).spec c (V0 m c) (fun w => (dats m 0 c).arrAt w (cfgs 0).N)
      (Proc.devRef .tc main_v4_0) = (dats m 0 c).arrAt 3 cfg0.N :=
    Pipeline.withArrays_arr (cfgs 0).spec (by decide) c (V0 m c) (fun w => (dats m 0 c).arrAt w (cfgs 0).N) 3
  rw [← final3 m c, ← e]
  unfold Pipeline.afterTail₀
  simp only [hostOps1, List.flatten_cons, List.flatten_nil, List.cons_append, List.nil_append, List.append_nil]
  after_results
  rfl

/-- Result `main_v8` from the second array the region leaves. -/
theorem tail8 (c : Dev nD) : (Pipeline.afterTail₀ cfgs (dats m) 0 (V0 m) [hostOps1] c main_v8 : S2x2x1025x1024.Idx → EReal)
    = unpack (arrP (V m c main_v2) (V m c main_v3) (V m c main_v1)) := by
  have e : Pipeline.withArrays (cfgs 0).spec c (V0 m c) (fun w => (dats m 0 c).arrAt w (cfgs 0).N)
      (Proc.devRef .tc main_v4_1) = (dats m 0 c).arrAt 4 cfg0.N :=
    Pipeline.withArrays_arr (cfgs 0).spec (by decide) c (V0 m c) (fun w => (dats m 0 c).arrAt w (cfgs 0).N) 4
  rw [← final4 m c, ← e]
  unfold Pipeline.afterTail₀
  simp only [hostOps1, List.flatten_cons, List.flatten_nil, List.cons_append, List.nil_append, List.append_nil]
  after_results
  rfl

/-- `unpack` at an entry. -/
theorem unpack_apply (A : S4x1152x1024.Idx → EReal) (a b : Fin 2) (f : Fin 1025) (t : Fin 1024) :
    unpack A (ix4 a b f t) = A (ix3 (⟨2 * a.val + b.val, by omega⟩ : Fin 4) (⟨f.val, by omega⟩ : Fin 1152) t) := by
  unfold unpack
  clean_types
  pointwise
  exact congrArg (fun q => A (ix3 q (⟨f.val, by omega⟩ : Fin 1152) t)) (Fin.ext (by show a.val * 2 + b.val = 2 * a.val + b.val; omega))

/-- The row medians of the kernel at an entry. -/
theorem rowArr_apply (c : Dev nD) (a b : Fin 2) (f : Fin 1025) (t : Fin 1024) :
    rowArr (V m c main_v2) (ix3 (⟨2 * a.val + b.val, by omega⟩ : Fin 4) (⟨f.val, by omega⟩ : Fin 1152) t)
      = lastMed (argSpec m c) a b f t := by
  unfold rowArr midE lastMed
  refine congrArg (mid31 (min : EReal → EReal → EReal) max) (funext fun k => ?_)
  exact row_apply m c a b _ rfl _ f.isLt _

/-- The column medians of the kernel at an entry. -/
theorem colArr_apply (c : Dev nD) (a b : Fin 2) (f : Fin 1025) (t : Fin 1024) :
    colArr (V m c main_v3) (ix3 (⟨2 * a.val + b.val, by omega⟩ : Fin 4) (⟨f.val, by omega⟩ : Fin 1152) t)
      = freqMed (argSpec m c) a b f t := by
  unfold colArr midE freqMed
  refine congrArg (mid31 (min : EReal → EReal → EReal) max) (funext fun k => ?_)
  exact col_apply m c a b _ rfl _ _

/-- The spectrogram itself as the kernel reads it, at an entry. -/
theorem mid_apply (c : Dev nD) (a b : Fin 2) (f : Fin 1025) (t : Fin 1024) :
    (V m c main_v1 : S4x1152x1024.Idx → EReal)
      (ix3 (⟨2 * a.val + b.val, by omega⟩ : Fin 4) (⟨f.val, by omega⟩ : Fin 1152) t) = argSpec m c a b f t :=
  (congrFun (entry1 m c) _).trans ((base_apply m c a b _ rfl _ t).trans (dif_pos f.isLt))

/-- The first result, of the spectrogram. -/
def outH (S : Spec) (i : S2x2x1025x1024.Idx) : EReal :=
  share (S (i 0) (i 1) (i 2) (i 3)) (lastMed S (i 0) (i 1) (i 2) (i 3))
    (lastMed S (i 0) (i 1) (i 2) (i 3) * lastMed S (i 0) (i 1) (i 2) (i 3)
      + freqMed S (i 0) (i 1) (i 2) (i 3) * freqMed S (i 0) (i 1) (i 2) (i 3))

/-- The second result, of the spectrogram. -/
def outP (S : Spec) (i : S2x2x1025x1024.Idx) : EReal :=
  share (S (i 0) (i 1) (i 2) (i 3)) (freqMed S (i 0) (i 1) (i 2) (i 3))
    (lastMed S (i 0) (i 1) (i 2) (i 3) * lastMed S (i 0) (i 1) (i 2) (i 3)
      + freqMed S (i 0) (i 1) (i 2) (i 3) * freqMed S (i 0) (i 1) (i 2) (i 3))

/-- The first result is `outH`. -/
theorem value6 (c : Dev nD) :
    unpack (arrH (V m c main_v2) (V m c main_v3) (V m c main_v1)) = outH (argSpec m c) := by
  funext i
  obtain ⟨a, b, f, t, rfl⟩ : ∃ (a b : Fin 2) (f : Fin 1025) (t : Fin 1024), i = ix4 a b f t :=
    ⟨i 0, i 1, i 2, i 3, by funext d; fin_cases d <;> rfl⟩
  rw [unpack_apply]
  unfold arrH
  rw [rowArr_apply, colArr_apply, mid_apply]
  rfl

/-- The second result is `outP`. -/
theorem value8 (c : Dev nD) :
    unpack (arrP (V m c main_v2) (V m c main_v3) (V m c main_v1)) = outP (argSpec m c) := by
  funext i
  obtain ⟨a, b, f, t, rfl⟩ : ∃ (a b : Fin 2) (f : Fin 1025) (t : Fin 1024), i = ix4 a b f t :=
    ⟨i 0, i 1, i 2, i 3, by funext d; fin_cases d <;> rfl⟩
  rw [unpack_apply]
  unfold arrP
  rw [rowArr_apply, colArr_apply, mid_apply]
  rfl

/-- Every run of the kernel ends with its two results at `outH` and `outP` of its argument, and the argument as it was. -/
theorem kernel_run (g : Dev nD → PrngReg) : θ_run defs (onTc (τ := τ) (main (F := Ideal))) ⟨m, fun _ => 0, g⟩ (fun r =>
    ∀ c : Dev nD, r.2.mem ((c.tc : Thread nD τ).loc main_v6) = outH (argSpec m c)
      ∧ r.2.mem ((c.tc : Thread nD τ).loc main_v8) = outP (argSpec m c)
      ∧ r.2.mem ((c.tc : Thread nD τ).loc main_arg0) = m ((c.tc : Thread nD τ).loc main_arg0)) := by
  refine (θ_run defs _ _).mono (fun r h c => ⟨?_, ?_, ?_⟩) (Gen.run_main m g)
  · exact ((h c).2 main_v6 (Pipeline.mem_restRefs_of main_v6 (by decide) (by decide))).trans ((tail6 m c).trans (value6 m c))
  · exact ((h c).2 main_v8 (Pipeline.mem_restRefs_of main_v8 (by decide) (by decide))).trans ((tail8 m c).trans (value8 m c))
  · exact ((h c).2 main_arg0 (Pipeline.mem_restRefs_of main_arg0 (by decide) (by decide))).trans (W_main_arg0 m (dats m) c)

end Cert.Med

end
-- ==== Proof.PreFacts.lean ====
/-
  The precondition, entry by entry: neither median is plus infinity and the two are not both zero, or the
  spectrogram is zero there.
-/
module

public import proofs.«01_k».proof.Proof.RefWindows
public import proofs.«01_k».proof.Pre_medians_fit

@[expose] public section

set_option maxRecDepth 16384

noncomputable section

namespace Cert.Med

open Cert.ReferenceIdeal Cert.ReferenceIdeal.Gen Cert.ReferenceIdeal.Value Idealize.ShloMosaic Idealize.ShloMosaic.TcCoe Idealize.ShloMosaic.Tactic
open Idealize.SL.Sem

/-- The side conditions of the precondition's operations hold. -/
instance pre_facts : Cert.Pre_medians_fit.Facts := by
  constructor <;> decide

/-- The precondition as formed from the argument `s` and the two medians `h` and `p`. -/
def fits (s h p : FVec Ideal S2x2x1025x1024 .f32) : IVec S2x2x1025x1024 1 :=
  ori (andi (andi (cmpf .olt h (broadcastInDim S2x2x1025x1024 ![] bcast_S_S2x2x1025x1024 (constant S_ .f32 0x7F800000#32)))
      (cmpf .olt p (broadcastInDim S2x2x1025x1024 ![] bcast_S_S2x2x1025x1024 (constant S_ .f32 0x7F800000#32))))
    (ori (cmpf .une h (broadcastInDim S2x2x1025x1024 ![] bcast_S_S2x2x1025x1024 (constant S_ .f32 0x00000000#32)))
      (cmpf .une p (broadcastInDim S2x2x1025x1024 ![] bcast_S_S2x2x1025x1024 (constant S_ .f32 0x00000000#32)))))
    (cmpf .oeq s (broadcastInDim S2x2x1025x1024 ![] bcast_S_S2x2x1025x1024 (constant S_ .f32 0x00000000#32)))

/-- Two bits and either of two more, or else a fifth: what that says of each. -/
theorem bits : ∀ a b c d f : Bool, ((BitVec.ofBool a &&& BitVec.ofBool b) &&& (BitVec.ofBool c ||| BitVec.ofBool d))
    ||| BitVec.ofBool f = 1#1 → (a = true ∧ b = true ∧ (c = true ∨ d = true)) ∨ f = true := by
  decide

/-- What the precondition says at an entry. -/
theorem fits_apply (s h p : FVec Ideal S2x2x1025x1024 .f32) (i : S2x2x1025x1024.Idx) (e : fits s h p i = 1#1) :
    ((h i : EReal) ≠ ⊤ ∧ (p i : EReal) ≠ ⊤ ∧ ((h i : EReal) ≠ 0 ∨ (p i : EReal) ≠ 0)) ∨ (s i : EReal) = 0 := by
  have e' : ((Ideal.cmp .olt (h i : EReal) (Ideal.ofBits .f32 0x7F800000#32)
      &&& Ideal.cmp .olt (p i : EReal) (Ideal.ofBits .f32 0x7F800000#32))
      &&& (Ideal.cmp .une (h i : EReal) (Ideal.ofBits .f32 0x00000000#32)
        ||| Ideal.cmp .une (p i : EReal) (Ideal.ofBits .f32 0x00000000#32)))
      ||| Ideal.cmp .oeq (s i : EReal) (Ideal.ofBits .f32 0x00000000#32) = 1#1 := e
  have top : Ideal.ofBits .f32 0x7F800000#32 = (⊤ : EReal) := by simp [Ideal.ofBits, Ideal.ieee]
  rw [top, Ideal.ofBits_zero_f32] at e'
  rcases bits _ _ _ _ _ e' with ⟨h1, h2, h3⟩ | h0
  · exact Or.inl ⟨ne_of_lt (of_decide_eq_true h1), ne_of_lt (of_decide_eq_true h2),
      h3.imp of_decide_eq_true of_decide_eq_true⟩
  · exact Or.inr (of_decide_eq_true h0)

/-- The precondition's median is the reference's. -/
theorem median_eq (x : FVec Ideal S2x2x1025x1024x31 .f32) : Cert.Pre_medians_fit.fn_median (F := Ideal) x = quant x := by
  unfold Cert.Pre_medians_fit.fn_median Cert.Pre_medians_fit.fn_quantile Cert.Pre_medians_fit.fn_quantile_part1
  rfl

/-- The precondition on the reference's argument, in the reference's terms. -/
theorem fn_eq (V0 : Valuation τ sig (Elt Ideal)) :
    Cert.Pre_medians_fit.fn (F := Ideal) (V0 (Proc.devRef .tc main_arg0))
      = fits (V0 (Proc.devRef .tc main_arg0)) (quant (res_main_v35 V0)) (quant (res_main_v72 V0)) := by
  unfold Cert.Pre_medians_fit.fn Cert.Pre_medians_fit.fn_part1 Cert.Pre_medians_fit.fn_part2 Cert.Pre_medians_fit.fn_part3
  refine congrArg₂ (fits _) ((median_eq _).trans (congrArg quant ?_)) ((median_eq _).trans (congrArg quant ?_))
  · rfl
  · rfl

/-- What the precondition says of the reference's argument at an entry. -/
theorem fits_at (V0 : Valuation τ sig (Elt Ideal))
    (e : Cert.Pre_medians_fit.fn (F := Ideal) (V0 (Proc.devRef .tc main_arg0)) = fun _ => 1#1)
    (a b : Fin 2) (f : Fin 1025) (t : Fin 1024) :
    (lastMed (refSpec V0) a b f t ≠ ⊤ ∧ freqMed (refSpec V0) a b f t ≠ ⊤
      ∧ (lastMed (refSpec V0) a b f t ≠ 0 ∨ freqMed (refSpec V0) a b f t ≠ 0)) ∨ refSpec V0 a b f t = 0 := by
  rw [← harm_apply, ← perc_apply]
  exact fits_apply (V0 (Proc.devRef .tc main_arg0)) (res_main_v36 V0) (res_main_v73 V0) (ix4 a b f t) (congrFun ((fn_eq V0).symm.trans e) (ix4 a b f t))

end Cert.Med

end
-- ==== Proof.RefRun.lean ====
/-
  The reference's two results under the precondition: the kernel's formulas, of the reference's argument.
-/
module

public import proofs.«01_k».proof.Proof.Algebra
public import proofs.«01_k».proof.Proof.KernelRun
public import proofs.«01_k».proof.Proof.PreFacts

@[expose] public section

set_option maxRecDepth 16384

noncomputable section

namespace Cert.Med

open Cert.ReferenceIdeal Cert.ReferenceIdeal.Gen Cert.ReferenceIdeal.Value Idealize.ShloMosaic Idealize.ShloMosaic.TcCoe Idealize.ShloMosaic.Tactic
open Idealize.SL.Sem Idealize.ShloMosaic.StableHlo

/-- The reference's first result is `outH` of its argument. -/
theorem ref_first (V0 : Valuation τ sig (Elt Ideal))
    (e : Cert.Pre_medians_fit.fn (F := Ideal) (V0 (Proc.devRef .tc main_arg0)) = fun _ => 1#1) :
    (masked (V0 (Proc.devRef .tc main_arg0)) (res_main_v36 V0) (res_main_v73 V0) : S2x2x1025x1024.Idx → EReal)
      = outH (refSpec V0) := by
  funext i
  obtain ⟨a, b, f, t, rfl⟩ : ∃ (a b : Fin 2) (f : Fin 1025) (t : Fin 1024), i = ix4 a b f t :=
    ⟨i 0, i 1, i 2, i 3, by funext d; fin_cases d <;> rfl⟩
  have h := fits_at V0 e a b f t
  refine (masked_apply _ _ _ _).trans ?_
  rw [harm_apply, perc_apply]
  exact masked_eq_share _ _ _ h

/-- The reference's second result is `outP` of its argument. -/
theorem ref_second (V0 : Valuation τ sig (Elt Ideal))
    (e : Cert.Pre_medians_fit.fn (F := Ideal) (V0 (Proc.devRef .tc main_arg0)) = fun _ => 1#1) :
    (masked (V0 (Proc.devRef .tc main_arg0)) (res_main_v73 V0) (res_main_v36 V0) : S2x2x1025x1024.Idx → EReal)
      = outP (refSpec V0) := by
  funext i
  obtain ⟨a, b, f, t, rfl⟩ : ∃ (a b : Fin 2) (f : Fin 1025) (t : Fin 1024), i = ix4 a b f t :=
    ⟨i 0, i 1, i 2, i 3, by funext d; fin_cases d <;> rfl⟩
  have h := fits_at V0 e a b f t
  refine (masked_apply _ _ _ _).trans ?_
  rw [harm_apply, perc_apply]
  refine (masked_eq_share _ _ _ (h.imp_left fun w => ⟨w.2.1, w.1, w.2.2.symm⟩)).trans ?_
  rw [add_comm]
  rfl

/-- The reference's first result, as its run leaves it, is `masked` of the two medians. -/
theorem first_eq (V0 : Valuation τ sig (Elt Ideal)) :
    mulf (F := Ideal) (φ := .f32) (V0 (Proc.devRef .tc main_arg0)) (Host.divf (res_main_v83 V0) (addf (res_main_v83 V0)
        (Host.powf (Host.divf (res_main_v75 V0) (res_main_v80 V0)) (fill 0x40000000#32))))
      = masked (V0 (Proc.devRef .tc main_arg0)) (res_main_v36 V0) (res_main_v73 V0) := by
  unfold res_main_v83 res_main_v80 res_main_v76 res_main_v75
  generalize res_main_v36 V0 = h
  generalize res_main_v73 V0 = p
  rfl

/-- The reference's second result, as its run leaves it, is `masked` of the two medians the other way round. -/
theorem second_eq (V0 : Valuation τ sig (Elt Ideal)) :
    mulf (F := Ideal) (φ := .f32) (V0 (Proc.devRef .tc main_arg0)) (Host.divf (res_main_v98 V0) (addf (res_main_v98 V0)
        (Host.powf (Host.divf (res_main_v90 V0) (res_main_v95 V0)) (fill 0x40000000#32))))
      = masked (V0 (Proc.devRef .tc main_arg0)) (res_main_v73 V0) (res_main_v36 V0) := by
  unfold res_main_v98 res_main_v95 res_main_v91 res_main_v90
  generalize res_main_v36 V0 = h
  generalize res_main_v73 V0 = p
  rfl

/-- Every run of the reference whose argument meets the precondition ends with its two results at `outH` and `outP` of
its argument, and the argument as it was. -/
theorem reference_run (m : (ℓ : Loc nD τ sig) → Buf (Elt Ideal) ℓ) (g : Dev nD → PrngReg)
    (e : ∀ c : Dev nD, Cert.Pre_medians_fit.fn (F := Ideal) (m ((c.tc : Thread nD τ).loc main_arg0)) = fun _ => 1#1) :
    θ_run defs (onTc (τ := τ) (main (F := Ideal))) ⟨m, fun _ => 0, g⟩ (fun r => ∀ c : Dev nD,
      r.2.mem ((c.tc : Thread nD τ).loc main_v104) = outH (refSpec (launchContents m c))
      ∧ r.2.mem ((c.tc : Thread nD τ).loc main_v105) = outP (refSpec (launchContents m c))
      ∧ r.2.mem ((c.tc : Thread nD τ).loc main_arg0) = m ((c.tc : Thread nD τ).loc main_arg0)) := by
  refine (θ_run defs _ _).mono (fun r h c => ⟨?_, ?_, (h c).2.2⟩) (Cert.ReferenceIdeal.Value.run (F := Ideal) m g)
  · exact (h c).1.trans ((first_eq (launchContents m c)).trans (ref_first (launchContents m c) (e c)))
  · exact (h c).2.1.trans ((second_eq (launchContents m c)).trans (ref_second (launchContents m c) (e c)))

end Cert.Med

end
-- ==== Proof.lean ====
/-
  The certificate: every run of the three programs ends with the arguments as they were and every semaphore at zero, and
  under the precondition the idealized kernel and the idealized reference end with the same two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import Idealize.ShloMosaic.Adequacy
public import Idealize.ShloMosaic.Init

@[expose] public section

noncomputable section

namespace Cert.Proof

open Idealize.ShloMosaic Idealize.SL.Sem

/-- Every run of the idealized reference ends with its argument as it was and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- From memories agreeing on the argument, which meets the precondition, the idealized kernel and the idealized
reference end with the same two results. -/
theorem results_agree : Cert.algebraic_KernelIdeal_ReferenceIdeal_pre_medians_fit := by
  intro m g m' g' hpre hagree
  have hspec : ∀ c, Cert.Med.refSpec (StableHlo.launchContents m' c) = Cert.Med.argSpec m c := fun c => by
    unfold Cert.Med.refSpec Cert.Med.argSpec
    funext a b f t
    exact congrFun (hagree c) _
  refine ⟨fun c => Cert.Med.outH (Cert.Med.argSpec m c), fun c => Cert.Med.outP (Cert.Med.argSpec m c),
    Cert.Med.kernel_run m g, ?_⟩
  refine (θ_run Cert.ReferenceIdeal.defs _ _).mono (fun r h c => ?_)
    (Cert.Med.reference_run m' g' fun c => (congrArg (Cert.Pre_medians_fit.fn (F := Ideal)) (hagree c)).trans (hpre c))
  obtain ⟨h1, h2, h3⟩ := h c
  rw [hspec c] at h1 h2
  exact ⟨h1, h2, h3⟩

/-- Everything the certificate claims. -/
theorem claim : Cert.Claim :=
  ⟨Cert.Kernel.Gen.facts, Cert.KernelIdeal.Gen.facts, Cert.ReferenceIdeal.Gen.facts, Cert.Med.pre_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    results_agree⟩

end Cert.Proof

end
